-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S160x3x5120 : Shape := ⟨3, ![160, 3, 5120]⟩
abbrev S160x3 : Shape := ⟨2, ![160, 3]⟩
abbrev S5120x65536 : Shape := ⟨2, ![5120, 65536]⟩
abbrev S65536 : Shape := ⟨1, ![65536]⟩
abbrev S80x65536 : Shape := ⟨2, ![80, 65536]⟩
abbrev S160 : Shape := ⟨1, ![160]⟩
abbrev S160x3x20 : Shape := ⟨3, ![160, 3, 20]⟩
abbrev S_ : Shape := ⟨0, ![]⟩

class Facts : Prop where
  bcast_S_S160 : S_.BroadcastsInDim S160 (![] : Fin 0 → Fin S160.rank)
  bcast_S_S160x3x20 : S_.BroadcastsInDim S160x3x20 (![] : Fin 0 → Fin S160x3x20.rank)

variable [Facts]

def fn {F : FTy → Type} [FloatOps F] (main_arg0 : FVec F S160x3x5120 .fp8e4m3) (main_arg1 : FVec F S160x3 .f32) (main_arg2 : FVec F S5120x65536 .fp8e4m3) (main_arg3 : FVec F S65536 .f32) (main_arg4 : IVec S80x65536 32) (main_arg5 : FVec F S160 .f32) (main_arg6 : FVec F S160 .f32) (main_arg7 : FVec F S160 .f32) (main_arg8 : IVec S160x3x20 32) : IVec S160 1 × IVec S160x3x20 1 × IVec S160x3x20 1 :=
  let main_v0 : FVec F S160 .f32 := Host.absf main_arg5
  let main_cst : FVec F S_ .f32 := constant S_ .f32 0x7F800000#32
  let main_v1 : FVec F S160 .f32 := broadcastInDim S160 ![] bcast_S_S160 main_cst
  let main_v2 : IVec S160 1 := cmpf .olt main_v0 main_v1
  let main_c : IVec S_ 32 := constantI S_ 32 0#32
  let main_v3 : IVec S160x3x20 32 := broadcastInDim S160x3x20 ![] bcast_S_S160x3x20 main_c
  let main_v4 : IVec S160x3x20 1 := cmpi .sge main_arg8 main_v3
  let main_c_0 : IVec S_ 32 := constantI S_ 32 65536#32
  let main_v5 : IVec S160x3x20 32 := broadcastInDim S160x3x20 ![] bcast_S_S160x3x20 main_c_0
  let main_v6 : IVec S160x3x20 1 := cmpi .slt main_arg8 main_v5
  (main_v2, main_v4, main_v6)
-- ==== Kernel.lean ====
abbrev S160x3x5120 : Shape := ⟨3, ![160, 3, 5120]⟩
abbrev S160x3 : Shape := ⟨2, ![160, 3]⟩
abbrev S5120x65536 : Shape := ⟨2, ![5120, 65536]⟩
abbrev S65536 : Shape := ⟨1, ![65536]⟩
abbrev S80x65536 : Shape := ⟨2, ![80, 65536]⟩
abbrev S160 : Shape := ⟨1, ![160]⟩
abbrev S160x3x20 : Shape := ⟨3, ![160, 3, 20]⟩
abbrev S3x160x5120 : Shape := ⟨3, ![3, 160, 5120]⟩
abbrev S480x5120 : Shape := ⟨2, ![480, 5120]⟩
abbrev S_ : Shape := ⟨0, ![]⟩
abbrev S160x1 : Shape := ⟨2, ![160, 1]⟩
abbrev S160x8 : Shape := ⟨2, ![160, 8]⟩
abbrev S3x160x20 : Shape := ⟨3, ![3, 160, 20]⟩
abbrev S480x20 : Shape := ⟨2, ![480, 20]⟩
abbrev S480x128 : Shape := ⟨2, ![480, 128]⟩
abbrev S480x256 : Shape := ⟨2, ![480, 256]⟩
abbrev S1x65536 : Shape := ⟨2, ![1, 65536]⟩
abbrev S480x65536 : Shape := ⟨2, ![480, 65536]⟩
abbrev S480x1 : Shape := ⟨2, ![480, 1]⟩
abbrev S5120x1024 : Shape := ⟨2, ![5120, 1024]⟩
abbrev S1x1024 : Shape := ⟨2, ![1, 1024]⟩
abbrev S80x1024 : Shape := ⟨2, ![80, 1024]⟩
abbrev S480x1024 : Shape := ⟨2, ![480, 1024]⟩
abbrev S480x512 : Shape := ⟨2, ![480, 512]⟩
abbrev S5120x512 : Shape := ⟨2, ![5120, 512]⟩
abbrev S8x1 : Shape := ⟨2, ![8, 1]⟩
abbrev S8x128 : Shape := ⟨2, ![8, 128]⟩
abbrev S1x128 : Shape := ⟨2, ![1, 128]⟩
abbrev S8x128x1 : Shape := ⟨3, ![8, 128, 1]⟩
abbrev S480 : Shape := ⟨1, ![480]⟩
abbrev S3x160 : Shape := ⟨2, ![3, 160]⟩
abbrev S3x160x65536 : Shape := ⟨3, ![3, 160, 65536]⟩
abbrev S160x3x65536 : Shape := ⟨3, ![160, 3, 65536]⟩

abbrev nBuf : Space → Nat
  | .hbm => 91
  | .vmem => 17
  | .smem => 0
  | _ => 0

abbrev bufTy : (tb : Table) → Fin (tcTables nBuf tb) → BufTy
  | .hbm, ⟨0, _⟩ => ⟨S160x3x5120, .fp8e4m3⟩
  | .hbm, ⟨1, _⟩ => ⟨S160x3, .f32⟩
  | .hbm, ⟨2, _⟩ => ⟨S5120x65536, .fp8e4m3⟩
  | .hbm, ⟨3, _⟩ => ⟨S65536, .f32⟩
  | .hbm, ⟨4, _⟩ => ⟨S80x65536, .i32⟩
  | .hbm, ⟨5, _⟩ => ⟨S160, .f32⟩
  | .hbm, ⟨6, _⟩ => ⟨S160, .f32⟩
  | .hbm, ⟨7, _⟩ => ⟨S160, .f32⟩
  | .hbm, ⟨8, _⟩ => ⟨S160x3x20, .i32⟩
  | .hbm, ⟨9, _⟩ => ⟨S3x160x5120, .fp8e4m3⟩
  | .hbm, ⟨10, _⟩ => ⟨S480x5120, .fp8e4m3⟩
  | .hbm, ⟨11, _⟩ => ⟨S_, .f32⟩
  | .hbm, ⟨12, _⟩ => ⟨S160, .f32⟩
  | .hbm, ⟨13, _⟩ => ⟨S160, .f32⟩
  | .hbm, ⟨14, _⟩ => ⟨S160x1, .f32⟩
  | .hbm, ⟨15, _⟩ => ⟨S160, .f32⟩
  | .hbm, ⟨16, _⟩ => ⟨S160x1, .f32⟩
  | .hbm, ⟨17, _⟩ => ⟨S160, .f32⟩
  | .hbm, ⟨18, _⟩ => ⟨S160x1, .f32⟩
  | .hbm, ⟨19, _⟩ => ⟨S160, .f32⟩
  | .hbm, ⟨20, _⟩ => ⟨S_, .f32⟩
  | .hbm, ⟨21, _⟩ => ⟨S160, .f32⟩
  | .hbm, ⟨22, _⟩ => ⟨S160x1, .f32⟩
  | .hbm, ⟨23, _⟩ => ⟨S160x1, .f32⟩
  | .hbm, ⟨24, _⟩ => ⟨S160x1, .f32⟩
  | .hbm, ⟨25, _⟩ => ⟨S160x1, .f32⟩
  | .hbm, ⟨26, _⟩ => ⟨S160x1, .f32⟩
  | .hbm, ⟨27, _⟩ => ⟨S160x1, .f32⟩
  | .hbm, ⟨28, _⟩ => ⟨S160x1, .f32⟩
  | .hbm, ⟨29, _⟩ => ⟨S160x1, .f32⟩
  | .hbm, ⟨30, _⟩ => ⟨S160x8, .f32⟩
  | .hbm, ⟨31, _⟩ => ⟨S3x160x20, .i32⟩
  | .hbm, ⟨32, _⟩ => ⟨S480x20, .i32⟩
  | .hbm, ⟨33, _⟩ => ⟨S_, .i32⟩
  | .hbm, ⟨34, _⟩ => ⟨S_, .i32⟩
  | .hbm, ⟨35, _⟩ => ⟨S480x20, .i32⟩
  | .hbm, ⟨36, _⟩ => ⟨S480x20, .i32⟩
  | .hbm, ⟨37, _⟩ => ⟨S480x20, .i32⟩
  | .hbm, ⟨38, _⟩ => ⟨S_, .i32⟩
  | .hbm, ⟨39, _⟩ => ⟨S480x20, .i32⟩
  | .hbm, ⟨40, _⟩ => ⟨S480x20, .i1⟩
  | .hbm, ⟨41, _⟩ => ⟨S480x20, .i32⟩
  | .hbm, ⟨42, _⟩ => ⟨S480x20, .i32⟩
  | .hbm, ⟨43, _⟩ => ⟨S_, .i32⟩
  | .hbm, ⟨44, _⟩ => ⟨S480x20, .i32⟩
  | .hbm, ⟨45, _⟩ => ⟨S480x20, .i1⟩
  | .hbm, ⟨46, _⟩ => ⟨S480x20, .i1⟩
  | .hbm, ⟨47, _⟩ => ⟨S_, .i32⟩
  | .hbm, ⟨48, _⟩ => ⟨S480x20, .i32⟩
  | .hbm, ⟨49, _⟩ => ⟨S480x20, .i32⟩
  | .hbm, ⟨50, _⟩ => ⟨S480x20, .i32⟩
  | .hbm, ⟨51, _⟩ => ⟨S_, .i32⟩
  | .hbm, ⟨52, _⟩ => ⟨S_, .i32⟩
  | .hbm, ⟨53, _⟩ => ⟨S480x128, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S480x20, .i32⟩
  | .hbm, ⟨61, _⟩ => ⟨S480x20, .i32⟩
  | .hbm, ⟨62, _⟩ => ⟨S_, .i32⟩
  | .hbm, ⟨63, _⟩ => ⟨S480x20, .i32⟩
  | .hbm, ⟨64, _⟩ => ⟨S480x20, .i1⟩
  | .hbm, ⟨65, _⟩ => ⟨S_, .i32⟩
  | .hbm, ⟨66, _⟩ => ⟨S480x20, .i32⟩
  | .hbm, ⟨67, _⟩ => ⟨S480x20, .i1⟩
  | .hbm, ⟨68, _⟩ => ⟨S_, .i32⟩
  | .hbm, ⟨69, _⟩ => ⟨S_, .i1⟩
  | .hbm, ⟨70, _⟩ => ⟨S480x20, .i1⟩
  | .hbm, ⟨71, _⟩ => ⟨S480x20, .i1⟩
  | .hbm, ⟨72, _⟩ => ⟨S480x20, .i1⟩
  | .hbm, ⟨73, _⟩ => ⟨S480x20, .i32⟩
  | .hbm, ⟨74, _⟩ => ⟨S480x20, .i32⟩
  | .hbm, ⟨75, _⟩ => ⟨S480x20, .i32⟩
  | .hbm, ⟨76, _⟩ => ⟨S_, .i32⟩
  | .hbm, ⟨77, _⟩ => ⟨S_, .i32⟩
  | .hbm, ⟨78, _⟩ => ⟨S480x128, .i32⟩
  | .hbm, ⟨79, _⟩ => ⟨S480x256, .i32⟩
  | .hbm, ⟨80, _⟩ => ⟨S1x65536, .f32⟩
  | .hbm, ⟨81, _⟩ => ⟨S480x65536, .f32⟩
  | .hbm, ⟨82, _⟩ => ⟨S480x1, .f32⟩
  | .hbm, ⟨83, _⟩ => ⟨S480x128, .f32⟩
  | .hbm, ⟨84, _⟩ => ⟨S3x160, .f32⟩
  | .hbm, ⟨85, _⟩ => ⟨S160x3, .f32⟩
  | .hbm, ⟨86, _⟩ => ⟨S480x20, .f32⟩
  | .hbm, ⟨87, _⟩ => ⟨S3x160x20, .f32⟩
  | .hbm, ⟨88, _⟩ => ⟨S160x3x20, .f32⟩
  | .hbm, ⟨89, _⟩ => ⟨S3x160x65536, .f32⟩
  | .hbm, ⟨90, _⟩ => ⟨S160x3x65536, .f32⟩
  | .local _ .vmem, ⟨0, _⟩ => ⟨S480x5120, .fp8e4m3⟩
  | .local _ .vmem, ⟨1, _⟩ => ⟨S5120x1024, .fp8e4m3⟩
  | .local _ .vmem, ⟨2, _⟩ => ⟨S5120x1024, .fp8e4m3⟩
  | .local _ .vmem, ⟨3, _⟩ => ⟨S1x1024, .f32⟩
  | .local _ .vmem, ⟨4, _⟩ => ⟨S1x1024, .f32⟩
  | .local _ .vmem, ⟨5, _⟩ => ⟨S80x1024, .i32⟩
  | .local _ .vmem, ⟨6, _⟩ => ⟨S80x1024, .i32⟩
  | .local _ .vmem, ⟨7, _⟩ => ⟨S160x8, .f32⟩
  | .local _ .vmem, ⟨8, _⟩ => ⟨S480x256, .i32⟩
  | .local _ .vmem, ⟨9, _⟩ => ⟨S480x1024, .f32⟩
  | .local _ .vmem, ⟨10, _⟩ => ⟨S480x1024, .f32⟩
  | .local _ .vmem, ⟨11, _⟩ => ⟨S480x1, .f32⟩
  | .local _ .vmem, ⟨12, _⟩ => ⟨S480x128, .f32⟩
  | .local _ .vmem, ⟨13, _⟩ => ⟨S480x512, .f32⟩
  | .local _ .vmem, ⟨14, _⟩ => ⟨S480x128, .f32⟩
  | .local _ .vmem, ⟨15, _⟩ => ⟨S480x128, .f32⟩
  | .local _ .vmem, ⟨16, _⟩ => ⟨S480x128, .f32⟩
  | _, _ => ⟨S160x3x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v22 : Ref sig .tc := ⟨.hbm, 50, rfl⟩
abbrev main_c_1 : Ref sig .tc := ⟨.hbm, 51, rfl⟩
abbrev main_call1_v0 : Ref sig .tc := ⟨.hbm, 52, rfl⟩
abbrev main_v23 : Ref sig .tc := ⟨.hbm, 53, rfl⟩
abbrev main_c_2 : Ref sig .tc := ⟨.hbm, 54, rfl⟩
abbrev main_call2_v0 : Ref sig .tc := ⟨.hbm, 55, rfl⟩
abbrev main_call2_c : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_v5 : Ref sig .tc := ⟨.hbm, 63, rfl⟩
abbrev main_call2_v6 : Ref sig .tc := ⟨.hbm, 64, rfl⟩
abbrev main_call2_c_2 : Ref sig .tc := ⟨.hbm, 65, rfl⟩
abbrev main_call2_v7 : Ref sig .tc := ⟨.hbm, 66, rfl⟩
abbrev main_call2_v8 : Ref sig .tc := ⟨.hbm, 67, rfl⟩
abbrev main_call2_c_3 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_v24 : Ref sig .tc := ⟨.hbm, 75, rfl⟩
abbrev main_c_3 : Ref sig .tc := ⟨.hbm, 76, rfl⟩
abbrev main_call3_v0 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28_0 : Ref sig .tc := ⟨.hbm, 81, rfl⟩
abbrev main_v28_1 : Ref sig .tc := ⟨.hbm, 82, rfl⟩
abbrev main_v28_2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v28861 : BitVec 1 := Scalar.cmpi .eq arg0 c63_i32
  let v28862 : BitVec 32 := Scalar.extui v28861
  let c0_i32_12737 : BitVec 32 := 0#32
  let v28863 : BitVec 1 := Scalar.cmpi .ne v28862 c0_i32_12737
  v28863

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S480x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S5120x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S160x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S480x256 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S480x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S480x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S480x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S160x3x5120 : Shape := ⟨3, ![160, 3, 5120]⟩
abbrev S160x3 : Shape := ⟨2, ![160, 3]⟩
abbrev S5120x65536 : Shape := ⟨2, ![5120, 65536]⟩
abbrev S65536 : Shape := ⟨1, ![65536]⟩
abbrev S80x65536 : Shape := ⟨2, ![80, 65536]⟩
abbrev S160 : Shape := ⟨1, ![160]⟩
abbrev S160x3x20 : Shape := ⟨3, ![160, 3, 20]⟩
abbrev S480x5120 : Shape := ⟨2, ![480, 5120]⟩
abbrev S480x65536 : Shape := ⟨2, ![480, 65536]⟩
abbrev S160x3x65536 : Shape := ⟨3, ![160, 3, 65536]⟩
abbrev S160x3x1 : Shape := ⟨3, ![160, 3, 1]⟩
abbrev S1x1x65536 : Shape := ⟨3, ![1, 1, 65536]⟩
abbrev S_ : Shape := ⟨0, ![]⟩
abbrev S160x65536 : Shape := ⟨2, ![160, 65536]⟩
abbrev S160x1x65536 : Shape := ⟨3, ![160, 1, 65536]⟩
abbrev S3 : Shape := ⟨1, ![3]⟩
abbrev S1x3x1 : Shape := ⟨3, ![1, 3, 1]⟩
abbrev S160x1x1 : Shape := ⟨3, ![160, 1, 1]⟩
abbrev S160x3x20x1 : Shape := ⟨4, ![160, 3, 20, 1]⟩
abbrev S1 : Shape := ⟨1, ![1]⟩
abbrev S1x1x1x1 : Shape := ⟨4, ![1, 1, 1, 1]⟩

abbrev nBuf : Space → Nat
  | .hbm => 111
  | .vmem => 3
  | .smem => 0
  | _ => 0

abbrev bufTy : (tb : Table) → Fin (tcTables nBuf tb) → BufTy
  | .hbm, ⟨0, _⟩ => ⟨S160x3x5120, .fp8e4m3⟩
  | .hbm, ⟨1, _⟩ => ⟨S160x3, .f32⟩
  | .hbm, ⟨2, _⟩ => ⟨S5120x65536, .fp8e4m3⟩
  | .hbm, ⟨3, _⟩ => ⟨S65536, .f32⟩
  | .hbm, ⟨4, _⟩ => ⟨S80x65536, .i32⟩
  | .hbm, ⟨5, _⟩ => ⟨S160, .f32⟩
  | .hbm, ⟨6, _⟩ => ⟨S160, .f32⟩
  | .hbm, ⟨7, _⟩ => ⟨S160, .f32⟩
  | .hbm, ⟨8, _⟩ => ⟨S160x3x20, .i32⟩
  | .hbm, ⟨9, _⟩ => ⟨S480x5120, .fp8e4m3⟩
  | .hbm, ⟨10, _⟩ => ⟨S480x65536, .f32⟩
  | .hbm, ⟨11, _⟩ => ⟨S160x3x65536, .f32⟩
  | .hbm, ⟨12, _⟩ => ⟨S160x3x1, .f32⟩
  | .hbm, ⟨13, _⟩ => ⟨S160x3x65536, .f32⟩
  | .hbm, ⟨14, _⟩ => ⟨S160x3x65536, .f32⟩
  | .hbm, ⟨15, _⟩ => ⟨S1x1x65536, .f32⟩
  | .hbm, ⟨16, _⟩ => ⟨S160x3x65536, .f32⟩
  | .hbm, ⟨17, _⟩ => ⟨S160x3x65536, .f32⟩
  | .hbm, ⟨18, _⟩ => ⟨S_, .i32⟩
  | .hbm, ⟨19, _⟩ => ⟨S80x65536, .i32⟩
  | .hbm, ⟨20, _⟩ => ⟨S80x65536, .i32⟩
  | .hbm, ⟨21, _⟩ => ⟨S_, .i32⟩
  | .hbm, ⟨22, _⟩ => ⟨S80x65536, .i32⟩
  | .hbm, ⟨23, _⟩ => ⟨S80x65536, .i32⟩
  | .hbm, ⟨24, _⟩ => ⟨S160x65536, .i32⟩
  | .hbm, ⟨25, _⟩ => ⟨S_, .i32⟩
  | .hbm, ⟨26, _⟩ => ⟨S160x65536, .i32⟩
  | .hbm, ⟨27, _⟩ => ⟨S160x65536, .i32⟩
  | .hbm, ⟨28, _⟩ => ⟨S160x65536, .f32⟩
  | .hbm, ⟨29, _⟩ => ⟨S160x1x65536, .i32⟩
  | .hbm, ⟨30, _⟩ => ⟨S3, .i32⟩
  | .hbm, ⟨31, _⟩ => ⟨S_, .i32⟩
  | .hbm, ⟨32, _⟩ => ⟨S3, .i32⟩
  | .hbm, ⟨33, _⟩ => ⟨S3, .i32⟩
  | .hbm, ⟨34, _⟩ => ⟨S1x3x1, .i32⟩
  | .hbm, ⟨35, _⟩ => ⟨S160x1x65536, .i32⟩
  | .hbm, ⟨36, _⟩ => ⟨S_, .i32⟩
  | .hbm, ⟨37, _⟩ => ⟨S160x1x65536, .i32⟩
  | .hbm, ⟨38, _⟩ => ⟨S160x1x65536, .i32⟩
  | .hbm, ⟨39, _⟩ => ⟨S160x3x65536, .i32⟩
  | .hbm, ⟨40, _⟩ => ⟨S160x3x65536, .i32⟩
  | .hbm, ⟨41, _⟩ => ⟨S160x3x65536, .i32⟩
  | .hbm, ⟨42, _⟩ => ⟨S160x3x65536, .i32⟩
  | .hbm, ⟨43, _⟩ => ⟨S160x3x65536, .i32⟩
  | .hbm, ⟨44, _⟩ => ⟨S_, .i32⟩
  | .hbm, ⟨45, _⟩ => ⟨S160x3x65536, .i32⟩
  | .hbm, ⟨46, _⟩ => ⟨S160x3x65536, .i32⟩
  | .hbm, ⟨47, _⟩ => ⟨S160x3x65536, .f32⟩
  | .hbm, ⟨48, _⟩ => ⟨S160x1x65536, .f32⟩
  | .hbm, ⟨49, _⟩ => ⟨S_, .f32⟩
  | .hbm, ⟨50, _⟩ => ⟨S_, .f32⟩
  | .hbm, ⟨51, _⟩ => ⟨S160x3x65536, .f32⟩
  | .hbm, ⟨52, _⟩ => ⟨S160x3x65536, .f32⟩
  | .hbm, ⟨53, _⟩ => ⟨S160x3x65536, .f32⟩
  | .hbm, ⟨54, _⟩ => ⟨S160x1x1, .f32⟩
  | .hbm, ⟨55, _⟩ => ⟨S_, .f32⟩
  | .hbm, ⟨56, _⟩ => ⟨S160x3x65536, .f32⟩
  | .hbm, ⟨57, _⟩ => ⟨S160x3x65536, .i1⟩
  | .hbm, ⟨58, _⟩ => ⟨S_, .f32⟩
  | .hbm, ⟨59, _⟩ => ⟨S160x3x65536, .f32⟩
  | .hbm, ⟨60, _⟩ => ⟨S160x3x65536, .i1⟩
  | .hbm, ⟨61, _⟩ => ⟨S160x3x65536, .f32⟩
  | .hbm, ⟨62, _⟩ => ⟨S160x3x65536, .f32⟩
  | .hbm, ⟨63, _⟩ => ⟨S160x3x65536, .f32⟩
  | .hbm, ⟨64, _⟩ => ⟨S160x3x65536, .f32⟩
  | .hbm, ⟨65, _⟩ => ⟨S160x3x65536, .f32⟩
  | .hbm, ⟨66, _⟩ => ⟨S160x3x65536, .f32⟩
  | .hbm, ⟨67, _⟩ => ⟨S160x1x1, .f32⟩
  | .hbm, ⟨68, _⟩ => ⟨S160x3x65536, .f32⟩
  | .hbm, ⟨69, _⟩ => ⟨S160x3x65536, .f32⟩
  | .hbm, ⟨70, _⟩ => ⟨S160x3x65536, .f32⟩
  | .hbm, ⟨71, _⟩ => ⟨S160x3x65536, .f32⟩
  | .hbm, ⟨72, _⟩ => ⟨S160x1x1, .f32⟩
  | .hbm, ⟨73, _⟩ => ⟨S160x3x65536, .f32⟩
  | .hbm, ⟨74, _⟩ => ⟨S160x3x65536, .f32⟩
  | .hbm, ⟨75, _⟩ => ⟨S160x3x65536, .f32⟩
  | .hbm, ⟨76, _⟩ => ⟨S_, .f32⟩
  | .hbm, ⟨77, _⟩ => ⟨S160x3, .f32⟩
  | .hbm, ⟨78, _⟩ => ⟨S160x3x1, .f32⟩
  | .hbm, ⟨79, _⟩ => ⟨S160x3x65536, .f32⟩
  | .hbm, ⟨80, _⟩ => ⟨S160x3x65536, .f32⟩
  | .hbm, ⟨81, _⟩ => ⟨S160x3x65536, .f32⟩
  | .hbm, ⟨82, _⟩ => ⟨S_, .f32⟩
  | .hbm, ⟨83, _⟩ => ⟨S160x3, .f32⟩
  | .hbm, ⟨84, _⟩ => ⟨S160x3, .f32⟩
  | .hbm, ⟨85, _⟩ => ⟨S160x3, .f32⟩
  | .hbm, ⟨86, _⟩ => ⟨S_, .i32⟩
  | .hbm, ⟨87, _⟩ => ⟨S160x3x20, .i32⟩
  | .hbm, ⟨88, _⟩ => ⟨S160x3x20, .i1⟩
  | .hbm, ⟨89, _⟩ => ⟨S_, .i32⟩
  | .hbm, ⟨90, _⟩ => ⟨S160x3x20, .i32⟩
  | .hbm, ⟨91, _⟩ => ⟨S160x3x20, .i32⟩
  | .hbm, ⟨92, _⟩ => ⟨S160x3x20, .i32⟩
  | .hbm, ⟨93, _⟩ => ⟨S160x3x20x1, .i32⟩
  | .hbm, ⟨94, _⟩ => ⟨S1, .i32⟩
  | .hbm, ⟨95, _⟩ => ⟨S_, .i32⟩
  | .hbm, ⟨96, _⟩ => ⟨S160x3x20x1, .i32⟩
  | .hbm, ⟨97, _⟩ => ⟨S160x3x20x1, .i1⟩
  | .hbm, ⟨98, _⟩ => ⟨S1x1x1x1, .i32⟩
  | .hbm, ⟨99, _⟩ => ⟨S160x3x20x1, .i32⟩
  | .hbm, ⟨100, _⟩ => ⟨S160x3x20x1, .i1⟩
  | .hbm, ⟨101, _⟩ => ⟨S160x3x20x1, .i1⟩
  | .hbm, ⟨102, _⟩ => ⟨S_, .i1⟩
  | .hbm, ⟨103, _⟩ => ⟨S160x3x20, .i1⟩
  | .hbm, ⟨104, _⟩ => ⟨S160x3x20, .f32⟩
  | .hbm, ⟨105, _⟩ => ⟨S_, .f32⟩
  | .hbm, ⟨106, _⟩ => ⟨S160x3x20, .f32⟩
  | .hbm, ⟨107, _⟩ => ⟨S160x3x20, .f32⟩
  | .hbm, ⟨108, _⟩ => ⟨S160x3x1, .f32⟩
  | .hbm, ⟨109, _⟩ => ⟨S160x3x20, .f32⟩
  | .hbm, ⟨110, _⟩ => ⟨S160x3x20, .f32⟩
  | .local _ .vmem, ⟨0, _⟩ => ⟨S480x5120, .fp8e4m3⟩
  | .local _ .vmem, ⟨1, _⟩ => ⟨S5120x65536, .fp8e4m3⟩
  | .local _ .vmem, ⟨2, _⟩ => ⟨S480x65536, .f32⟩
  | _, _ => ⟨S160x3x5120, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_call0_cst : Ref sig .tc := ⟨.hbm, 49, rfl⟩
abbrev main_call0_call0_v0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_7 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_cst : Ref sig .tc := ⟨.hbm, 105, rfl⟩
abbrev main_call3_v14 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S480x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x65536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S480x65536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Math.lean ====
module

public import Idealize.ShloMosaic.Lib.IdealHost
public import Idealize.ShloMosaic.Lib.Pointwise
public import Mathlib.Tactic.FieldSimp
public import Mathlib.Tactic.LinearCombination
public import Mathlib.Analysis.SpecialFunctions.Log.Basic

/-! # The mathematics: penalties and the running log of a sum of exponentials

Facts about the extended reals, none about a program. -/

@[expose] public section

noncomputable section

namespace Cert.Maths

open Idealize.ShloMosaic

/-- The exponential of a real number. -/
theorem exp_real (r : ℝ) : Ideal.exp (r : EReal) = (Real.exp r : ℝ) := rfl
theorem exp_top : Ideal.exp ⊤ = ⊤ := rfl
theorem exp_bot : Ideal.exp ⊥ = 0 := rfl

/-- The logarithm of a positive real number. -/
theorem log_real {r : ℝ} (h : 0 < r) : Ideal.log (r : EReal) = (Real.log r : ℝ) := by
  show (if r ≤ 0 then (⊥ : EReal) else (Real.log r : ℝ)) = _
  rw [if_neg (not_le.mpr h)]

/-- The logarithm of zero. -/
theorem log_zero : Ideal.log 0 = ⊥ := by
  show (if (0 : ℝ) ≤ 0 then (⊥ : EReal) else (Real.log 0 : ℝ)) = _
  rw [if_pos le_rfl]

/-- The maximum of two reals. -/
theorem max_real (a b : ℝ) : max (a : EReal) (b : EReal) = ((max a b : ℝ) : EReal) :=
  (EReal.coe_strictMono.monotone.map_max).symm

/-- An exponential is infinite, or a real number that is not negative. -/
theorem exp_cases (z : EReal) : Ideal.exp z = ⊤ ∧ z = ⊤ ∨ ∃ s : ℝ, 0 ≤ s ∧ Ideal.exp z = s ∧ z ≠ ⊤ := by
  induction z using EReal.rec with
  | bot => exact Or.inr ⟨0, le_rfl, rfl, bot_ne_top⟩
  | top => exact Or.inl ⟨rfl, rfl⟩
  | coe r => exact Or.inr ⟨Real.exp r, (Real.exp_pos r).le, rfl, EReal.coe_ne_top r⟩

/-- An exponential relative to a real number. -/
theorem exp_sub (z : EReal) (hz : z ≠ ⊤) (μ : ℝ) {s : ℝ} (hs : Ideal.exp z = s) :
    Ideal.exp (z - μ) = ((s * Real.exp (-μ) : ℝ) : EReal) := by
  induction z using EReal.rec with
  | bot =>
    have : s = 0 := by exact_mod_cast hs.symm.trans exp_bot
    subst this
    rw [EReal.bot_sub, exp_bot]
    simp
  | top => exact absurd rfl hz
  | coe r =>
    have : s = Real.exp r := by exact_mod_cast hs.symm.trans (exp_real r)
    subst this
    rw [← EReal.coe_sub, exp_real, sub_eq_add_neg, Real.exp_add]

/-- Relative to infinity every exponential is zero. -/
theorem exp_sub_top (z : EReal) : Ideal.exp (z - ⊤) = 0 := by
  rw [EReal.sub_top, exp_bot]

/-- A running maximum `M` and a running sum `L` of exponentials relative to it, standing for the sum `S` of the
exponentials themselves. -/
def Lane (S M L : EReal) : Prop :=
  S = ⊤ ∧ M = ⊤ ∧ L = 0 ∨ ∃ s μ : ℝ, 0 ≤ s ∧ S = s ∧ M = μ ∧ L = ((s * Real.exp (-μ) : ℝ) : EReal)

/-- Nothing summed yet: any real maximum, and zero. -/
theorem lane_start (μ : ℝ) : Lane 0 μ 0 := Or.inr ⟨0, μ, le_rfl, rfl, rfl, by simp⟩

/-- A sum is not minus infinity. -/
theorem lane_ne_bot {S M L : EReal} (h : Lane S M L) : S ≠ ⊥ := by
  rcases h with ⟨rfl, _⟩ | ⟨s, _, _, rfl, _⟩
  · exact top_ne_bot
  · exact EReal.coe_ne_bot s

theorem exp_ne_bot (z : EReal) : Ideal.exp z ≠ ⊥ := by
  rcases exp_cases z with ⟨e, _⟩ | ⟨s, _, e, _⟩ <;> rw [e]
  · exact top_ne_bot
  · exact EReal.coe_ne_bot s

/-- The largest of a real number and things that are not infinite is real. -/
theorem max_real_of (μ : ℝ) (z : EReal) (hz : z ≠ ⊤) : ∃ ν : ℝ, max (μ : EReal) z = ν := by
  induction z using EReal.rec with
  | bot => exact ⟨μ, max_eq_left bot_le⟩
  | top => exact absurd rfl hz
  | coe r => exact ⟨max μ r, max_real μ r⟩

/-- One step of the running pair: four more terms. -/
theorem lane_step {S M L : EReal} (h : Lane S M L) (z0 z1 z2 z3 : EReal) {M' : EReal}
    (hM : M' = max (max (max (max M z0) z1) z2) z3) :
    Lane (S + (Ideal.exp z0 + Ideal.exp z1 + Ideal.exp z2 + Ideal.exp z3)) M'
      (L * Ideal.exp (M - M') + Ideal.exp (z0 - M') + Ideal.exp (z1 - M') + Ideal.exp (z2 - M') + Ideal.exp (z3 - M')) := by
  have hS := lane_ne_bot h
  have up : ∀ {a b : EReal}, a ≠ ⊥ → b ≠ ⊥ → a + b ≠ ⊥ := fun ha hb e => by
    rcases EReal.add_eq_bot_iff.mp e with e | e
    · exact ha e
    · exact hb e
  have n0 := exp_ne_bot z0
  have n1 := exp_ne_bot z1
  have n2 := exp_ne_bot z2
  have n3 := exp_ne_bot z3
  have left : ∀ {a b : EReal}, a = ⊤ → b ≠ ⊥ → a + b = ⊤ := fun ha hb => by rw [ha, EReal.top_add_of_ne_bot hb]
  have right : ∀ {a b : EReal}, b = ⊤ → a ≠ ⊥ → a + b = ⊤ := fun hb ha => by rw [hb, EReal.add_top_of_ne_bot ha]
  -- the sum is infinite: everything else is zero relative to it
  have full : M' = ⊤ → (M = ⊤ → L = 0) → S + (Ideal.exp z0 + Ideal.exp z1 + Ideal.exp z2 + Ideal.exp z3) = ⊤ →
      Lane (S + (Ideal.exp z0 + Ideal.exp z1 + Ideal.exp z2 + Ideal.exp z3)) M'
        (L * Ideal.exp (M - M') + Ideal.exp (z0 - M') + Ideal.exp (z1 - M') + Ideal.exp (z2 - M') + Ideal.exp (z3 - M')) := by
    intro e _ es
    refine Or.inl ⟨es, e, ?_⟩
    rw [e]
    simp only [exp_sub_top, mul_zero, add_zero]
  rcases h with ⟨rfl, rfl, rfl⟩ | ⟨s, μ, hs, rfl, rfl, rfl⟩
  · refine full ?_ (fun _ => rfl) (left rfl (up (up (up n0 n1) n2) n3))
    rw [hM]
    simp
  rcases exp_cases z0 with ⟨e0, rfl⟩ | ⟨s0, h0, e0, t0⟩
  · exact full (by rw [hM]; simp) (fun e => absurd e (EReal.coe_ne_top μ)) (right (left (left (left e0 n1) n2) n3) hS)
  rcases exp_cases z1 with ⟨e1, rfl⟩ | ⟨s1, h1, e1, t1⟩
  · exact full (by rw [hM]; simp) (fun e => absurd e (EReal.coe_ne_top μ)) (right (left (left (right e1 n0) n2) n3) hS)
  rcases exp_cases z2 with ⟨e2, rfl⟩ | ⟨s2, h2, e2, t2⟩
  · exact full (by rw [hM]; simp) (fun e => absurd e (EReal.coe_ne_top μ)) (right (left (right e2 (up n0 n1)) n3) hS)
  rcases exp_cases z3 with ⟨e3, rfl⟩ | ⟨s3, h3, e3, t3⟩
  · exact full (by rw [hM]; simp) (fun e => absurd e (EReal.coe_ne_top μ)) (right (right e3 (up (up n0 n1) n2)) hS)
  obtain ⟨ν0, r0⟩ := max_real_of μ z0 t0
  rw [r0] at hM
  obtain ⟨ν1, r1⟩ := max_real_of ν0 z1 t1
  rw [r1] at hM
  obtain ⟨ν2, r2⟩ := max_real_of ν1 z2 t2
  rw [r2] at hM
  obtain ⟨ν, r3⟩ := max_real_of ν2 z3 t3
  rw [r3] at hM
  subst hM
  refine Or.inr ⟨s + (s0 + s1 + s2 + s3), ν, by positivity, ?_, rfl, ?_⟩
  · rw [e0, e1, e2, e3]
    simp only [EReal.coe_add]
  rw [exp_sub z0 t0 ν e0, exp_sub z1 t1 ν e1, exp_sub z2 t2 ν e2, exp_sub z3 t3 ν e3]
  simp only [← EReal.coe_sub, exp_real, ← EReal.coe_mul, ← EReal.coe_add]
  congr 1
  simp only [sub_eq_add_neg, Real.exp_add]
  have e : Real.exp (-μ) * Real.exp μ = 1 := by rw [← Real.exp_add]; simp
  linear_combination s * Real.exp (-ν) * e

/-- A sum of reals, in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum with an infinite term and none minus infinity is infinite. -/
theorem sum_top {ι : Type} (s : Finset ι) (f : ι → EReal) (hf : ∀ i, f i ≠ ⊥) (a : ι) (ha : a ∈ s) (h : f a = ⊤) : ∑ i ∈ s, f i = ⊤ := by
  classical
  have nb : ∀ s : Finset ι, ∑ i ∈ s, f i ≠ ⊥ := by
    intro s
    induction s using Finset.induction_on with
    | empty => simp
    | insert b s hb ih =>
      rw [Finset.sum_insert hb]
      intro e
      rcases EReal.add_eq_bot_iff.mp e with e | e
      · exact hf b e
      · exact ih e
  rw [← Finset.add_sum_erase s f ha, h, EReal.top_add_of_ne_bot (nb _)]

/-- The largest of things is infinite if one of them is. -/
theorem fold_max_top {ι : Type} (s : Finset ι) (f : ι → EReal) (a : ι) (ha : a ∈ s) (h : f a = ⊤) : s.fold max ⊥ f = ⊤ :=
  top_le_iff.mp (Finset.le_fold_max _ |>.mpr (Or.inr ⟨a, ha, h.ge⟩))

/-- And otherwise not. -/
theorem fold_max_ne_top {ι : Type} (s : Finset ι) (f : ι → EReal) (h : ∀ a ∈ s, f a ≠ ⊤) : s.fold max ⊥ f ≠ ⊤ :=
  (Finset.fold_max_lt _ |>.mpr ⟨bot_lt_top, fun a ha => lt_top_iff_ne_top.mpr (h a ha)⟩).ne

/-- The largest of things is one of them or minus infinity. -/
theorem le_fold_max {ι : Type} (s : Finset ι) (f : ι → EReal) (a : ι) (ha : a ∈ s) : f a ≤ s.fold max ⊥ f :=
  Finset.le_fold_max _ |>.mpr (Or.inr ⟨a, ha, le_rfl⟩)

/-- The logarithm of a sum of exponentials: minus infinity if a term is infinite, since every term is zero relative to it. -/
def logSum (S : EReal) : EReal := if S = ⊤ then ⊥ else Ideal.log S

/-- It may be taken relative to any real number. -/
theorem logSum_rel (S τ : ℝ) (hS : 0 ≤ S) : Ideal.log ((S * Real.exp (-τ) : ℝ) : EReal) + τ = logSum S := by
  unfold logSum
  rw [if_neg (EReal.coe_ne_top S)]
  rcases hS.eq_or_lt with rfl | h
  · rw [zero_mul, EReal.coe_zero, log_zero, EReal.bot_add]
  · rw [log_real (mul_pos h (Real.exp_pos _)), log_real h, ← EReal.coe_add, Real.log_mul h.ne' (Real.exp_pos _).ne', Real.log_exp]
    congr 1
    ring

/-- The closing step: the lanes' sums brought to one maximum, added, and their logarithm taken. -/
theorem lanes_close {n : ℕ} (hn : 0 < n) (S M L : Fin n → EReal) (h : ∀ i, Lane (S i) (M i) (L i))
    {T : EReal} (hT : T = Finset.univ.fold max ⊥ M) :
    T + Ideal.log (∑ i, L i * Ideal.exp (M i - T)) = logSum (∑ i, S i) := by
  by_cases ht : ∃ i, M i = ⊤
  · obtain ⟨i, hi⟩ := ht
    have eT : T = ⊤ := hT.trans (fold_max_top _ M i (Finset.mem_univ i) hi)
    have eS : S i = ⊤ := by
      rcases h i with ⟨e, _⟩ | ⟨s, μ, _, _, e, _⟩
      · exact e
      · exact absurd (e.symm.trans hi) (EReal.coe_ne_top μ)
    rw [eT, sum_top _ S (fun i => lane_ne_bot (h i)) i (Finset.mem_univ i) eS]
    simp only [exp_sub_top, mul_zero, Finset.sum_const_zero, log_zero, EReal.add_bot]
    unfold logSum
    rw [if_pos rfl]
  · have g : ∀ i, ∃ s μ : ℝ, 0 ≤ s ∧ S i = s ∧ M i = μ ∧ L i = ((s * Real.exp (-μ) : ℝ) : EReal) := fun i => by
      rcases h i with ⟨_, e, _⟩ | e
      · exact absurd ⟨i, e⟩ ht
      · exact e
    choose s μ hs eS eM eL using g
    have t1 : T ≠ ⊤ := by
      rw [hT]
      exact fold_max_ne_top _ M fun i _ e => ht ⟨i, e⟩
    have t2 : T ≠ ⊥ := by
      have := le_fold_max Finset.univ M ⟨0, hn⟩ (Finset.mem_univ _)
      rw [← hT, eM] at this
      intro e
      rw [e] at this
      exact EReal.coe_ne_bot _ (le_bot_iff.mp this)
    obtain ⟨τ, rfl⟩ : ∃ τ : ℝ, T = τ := ⟨T.toReal, (EReal.coe_toReal t1 t2).symm⟩
    have e : ∀ i, L i * Ideal.exp (M i - τ) = ((s i * Real.exp (-τ) : ℝ) : EReal) := by
      intro i
      rw [eM, eL, ← EReal.coe_sub, exp_real, ← EReal.coe_mul]
      congr 1
      rw [sub_eq_add_neg, Real.exp_add]
      have e : Real.exp (-μ i) * Real.exp (μ i) = 1 := by rw [← Real.exp_add]; simp
      linear_combination s i * Real.exp (-τ) * e
    simp only [e, eS]
    rw [coe_sum, coe_sum, ← Finset.sum_mul, add_comm]
    exact logSum_rel _ τ (Finset.sum_nonneg fun i _ => hs i)

/-- The logarithm of the sum of exponentials as it is computed at once: relative to the largest. -/
theorem log_sum_exp {n : ℕ} (z : Fin n → EReal) :
    Ideal.log (∑ i, Ideal.exp (z i - Finset.univ.fold max ⊥ z)) + Finset.univ.fold max ⊥ z = logSum (∑ i, Ideal.exp (z i)) := by
  by_cases ht : ∃ i, z i = ⊤
  · obtain ⟨i, hi⟩ := ht
    rw [fold_max_top _ z i (Finset.mem_univ i) hi, sum_top _ _ (fun i => exp_ne_bot (z i)) i (Finset.mem_univ i) (by rw [hi, exp_top])]
    simp only [exp_sub_top, Finset.sum_const_zero, log_zero, EReal.bot_add]
    unfold logSum
    rw [if_pos rfl]
  · have t1 : Finset.univ.fold max ⊥ z ≠ ⊤ := fold_max_ne_top _ z fun i _ e => ht ⟨i, e⟩
    have g : ∀ i, ∃ s : ℝ, 0 ≤ s ∧ Ideal.exp (z i) = s ∧ z i ≠ ⊤ := fun i => by
      rcases exp_cases (z i) with ⟨_, e⟩ | e
      · exact absurd ⟨i, e⟩ ht
      · exact e
    choose s hs es hz using g
    by_cases t2 : Finset.univ.fold max ⊥ z = ⊥
    · have eb : ∀ i, z i = ⊥ := fun i => le_bot_iff.mp (t2 ▸ le_fold_max Finset.univ z i (Finset.mem_univ i))
      rw [t2, EReal.add_bot]
      simp only [eb, exp_bot, Finset.sum_const_zero]
      unfold logSum
      rw [if_neg (by simp), log_zero]
    · obtain ⟨τ, hτ⟩ : ∃ τ : ℝ, Finset.univ.fold max ⊥ z = τ := ⟨_, (EReal.coe_toReal t1 t2).symm⟩
      rw [hτ]
      simp only [fun i => exp_sub (z i) (hz i) τ (es i), es]
      rw [coe_sum, coe_sum, ← Finset.sum_mul]
      exact logSum_rel _ τ (Finset.sum_nonneg fun i _ => hs i)

/-- The penalised logit: `z` the scaled logit, `c` the count, `p`, `f`, `r` the penalties. -/
def pen (z : EReal) (c p : ℝ) (f r : EReal) : EReal :=
  (if 0 < c then (if 0 < z then Ideal.div z r else z * r) else z) - c * f - (if 0 < c then (p : EReal) else 0)

/-- A positive number divided, as a product. -/
theorem mul_div_one (z r : EReal) (hz : 0 < z) : z * Ideal.div 1 r = Ideal.div z r := by
  unfold Ideal.div
  by_cases hr : r = 0
  · rw [if_pos hr, if_pos hr, if_pos zero_lt_one, if_pos hz, EReal.mul_top_of_pos hz]
  · rw [if_neg hr, if_neg hr, one_mul]

/-- Two subtractions made together, the second of a real number. -/
theorem sub_add_real (a g : EReal) (p : ℝ) : a - (g + p) = a - g - p := by
  rw [sub_eq_add_neg, sub_eq_add_neg, sub_eq_add_neg, EReal.neg_add (Or.inr (EReal.coe_ne_top p)) (Or.inr (EReal.coe_ne_bot p)),
    sub_eq_add_neg, add_assoc]

/-- The penalties applied by a factor chosen first, and the two subtractions made together. -/
theorem pen_by_factor (z : EReal) (c p : ℝ) (f r : EReal) :
    z * (if (0 : EReal) < z then (if (0 : EReal) < c then Ideal.div 1 r else 1) else (if (0 : EReal) < c then r else 1))
      - ((c : EReal) * f + (if (0 : EReal) < c then (p : EReal) else 0)) = pen z c p f r := by
  simp only [EReal.coe_pos]
  unfold pen
  have e : (if 0 < c then (p : EReal) else 0) = ((if 0 < c then p else 0 : ℝ) : EReal) := by split <;> rfl
  rw [e, sub_add_real]
  by_cases hc : 0 < c <;> by_cases hz : 0 < z <;> simp only [hc, hz, if_true, if_false, mul_one]
  rw [mul_div_one z r hz]

/-- The penalties applied one after the other. -/
theorem pen_in_turn (z : EReal) (c p : ℝ) (f r : EReal) :
    (if (0 : EReal) < c then (if (0 : EReal) < z then Ideal.div z r else z * r) else z) - (c : EReal) * f
      - (if (0 : EReal) < c then (1 : EReal) else 0) * p = pen z c p f r := by
  simp only [EReal.coe_pos]
  unfold pen
  by_cases hc : 0 < c <;> simp only [hc, if_true, if_false, one_mul, zero_mul]

end Cert.Maths
-- ==== Proof.Spec.lean ====
module

public import proofs.«01_k».proof.Proof.Math
public import Idealize.ShloMosaic.Lib.ValueIdxCore

/-! # The results as extended real numbers

The arguments as extended real numbers, and the three results computed from them: what both programs
are shown to end with. -/

@[expose] public section

noncomputable section

namespace Cert.Spec

open Idealize.ShloMosaic

/-- The arguments: extended real numbers, of which the presence penalties are real, count words, and candidates in the vocabulary. -/
structure Args where
  x : Fin 160 → Fin 3 → Fin 5120 → EReal
  xs : Fin 160 → Fin 3 → EReal
  w : Fin 5120 → Fin 65536 → EReal
  ws : Fin 65536 → EReal
  cnt : Fin 80 → Fin 65536 → BitVec 32
  p : Fin 160 → ℝ
  f : Fin 160 → EReal
  r : Fin 160 → EReal
  cand : Fin 160 → Fin 3 → Fin 20 → Fin 65536

/-- The argument arrays hold these arguments. -/
structure Given (A : Args) (X : (⟨3, ![160, 3, 5120]⟩ : Shape).Idx → EReal) (XS : (⟨2, ![160, 3]⟩ : Shape).Idx → EReal)
    (W : (⟨2, ![5120, 65536]⟩ : Shape).Idx → EReal) (WS : (⟨1, ![65536]⟩ : Shape).Idx → EReal)
    (CN : (⟨2, ![80, 65536]⟩ : Shape).Idx → BitVec 32) (P F R : (⟨1, ![160]⟩ : Shape).Idx → EReal)
    (CA : (⟨3, ![160, 3, 20]⟩ : Shape).Idx → BitVec 32) : Prop where
  x : ∀ b k i, X (ix3 b k i) = A.x b k i
  xs : ∀ b k, XS (ix2 b k) = A.xs b k
  w : ∀ i v, W (ix2 i v) = A.w i v
  ws : ∀ v, WS (ix1 v) = A.ws v
  cnt : ∀ b v, CN (ix2 b v) = A.cnt b v
  p : ∀ b, P (ix1 b) = (A.p b : ℝ)
  f : ∀ b, F (ix1 b) = A.f b
  r : ∀ b, R (ix1 b) = A.r b
  cand : ∀ b k j, CA (ix3 b k j) = BitVec.ofNat 32 (A.cand b k j).val

variable (A : Args)

/-- The scaled logit. -/
def z (b : Fin 160) (k : Fin 3) (v : Fin 65536) : EReal := (∑ i, A.x b k i * A.w i v) * A.xs b k * A.ws v

/-- The sixteen bits of the count words that belong to sequence `b`. -/
def field (b : Fin 160) (v : Fin 65536) : BitVec 32 :=
  if h : b.val < 80 then A.cnt ⟨b.val, h⟩ v &&& 65535#32 else A.cnt ⟨b.val - 80, by omega⟩ v >>> 16

/-- The number of earlier occurrences of a token that draft position `k` sees, from a field. -/
def count (k : ℕ) (u : BitVec 32) : ℕ :=
  (u &&& 4095#32).toNat + ∑ i ∈ Finset.range (k + 1), (u >>> (12 + i) &&& 1#32).toNat

/-- The penalised logit. -/
def z2 (b : Fin 160) (k : Fin 3) (v : Fin 65536) : EReal :=
  Maths.pen (z A b k v) (count k.val (field A b v)) (A.p b) (A.f b) (A.r b)

/-- The logarithm of the sum of exponentials of the penalised logits. -/
def lse (b : Fin 160) (k : Fin 3) : EReal := Maths.logSum (∑ v, Ideal.exp (z2 A b k v))

/-- A candidate's log-probability. -/
def logp (b : Fin 160) (k : Fin 3) (j : Fin 20) : EReal := z2 A b k (A.cand b k j) - lse A b k

/-- The first result as an array. -/
def lseArr : (⟨2, ![160, 3]⟩ : Shape).Idx → EReal := fun y => lse A (y 0) (y 1)

/-- The second result as an array. -/
def logpArr : (⟨3, ![160, 3, 20]⟩ : Shape).Idx → EReal := fun y => logp A (y 0) (y 1) (y 2)

/-- The third result as an array. -/
def z2Arr : (⟨3, ![160, 3, 65536]⟩ : Shape).Idx → EReal := fun y => z2 A (y 0) (y 1) (y 2)

end Cert.Spec
-- ==== Proof.Count.lean ====
module

public import proofs.«01_k».proof.Proof.Spec

/-! # Counts: words of packed bits, and the numbers they stand for -/

@[expose] public section

noncomputable section

namespace Cert.Count

open Idealize.ShloMosaic

theorem and12 (u : BitVec 32) : (u &&& 4095#32).toNat = u.toNat % 4096 := by
  rw [BitVec.toNat_and]
  exact Nat.and_two_pow_sub_one_eq_mod u.toNat 12

theorem and16 (u : BitVec 32) : (u &&& 65535#32).toNat = u.toNat % 65536 := by
  rw [BitVec.toNat_and]
  exact Nat.and_two_pow_sub_one_eq_mod u.toNat 16

theorem bitAt (u : BitVec 32) (n : ℕ) : (u >>> n &&& 1#32).toNat = u.toNat / 2 ^ n % 2 := by
  rw [BitVec.toNat_and, BitVec.toNat_ushiftRight, Nat.shiftRight_eq_div_pow]
  exact Nat.and_two_pow_sub_one_eq_mod _ 1

/-- The count, in arithmetic. -/
theorem count_eq (k : ℕ) (u : BitVec 32) :
    Spec.count k u = u.toNat % 4096 + ∑ i ∈ Finset.range (k + 1), u.toNat / 2 ^ (12 + i) % 2 := by
  unfold Spec.count
  rw [and12]
  simp only [bitAt]

/-- Only the low sixteen bits matter. -/
theorem count_low (k : ℕ) (hk : k < 3) (u : BitVec 32) : Spec.count k (u &&& 65535#32) = Spec.count k u := by
  rw [count_eq, count_eq, and16]
  congr 1
  · omega
  · refine Finset.sum_congr rfl fun i hi => ?_
    have : i < 3 := by have := Finset.mem_range.mp hi; omega
    interval_cases i <;> omega

/-- The count as the words are added: the low twelve bits, then one bit for each draft position up to `k`. -/
def word (k : ℕ) (u : BitVec 32) : BitVec 32 :=
  match k with
  | 0 => (u &&& 4095#32) + (u >>> 12 &&& 1#32)
  | 1 => (u &&& 4095#32) + (u >>> 12 &&& 1#32) + (u >>> 13 &&& 1#32)
  | _ => (u &&& 4095#32) + (u >>> 12 &&& 1#32) + (u >>> 13 &&& 1#32) + (u >>> 14 &&& 1#32)

theorem word_toInt (k : ℕ) (hk : k < 3) (u : BitVec 32) : (word k u).toInt = (Spec.count k u : ℤ) := by
  have e : (word k u).toNat = Spec.count k u := by
    rw [count_eq]
    have h12 := and12 u
    have b12 := bitAt u 12
    have b13 := bitAt u 13
    have b14 := bitAt u 14
    interval_cases k <;> simp only [word, BitVec.toNat_add, h12, b12, b13, b14, Finset.sum_range_succ, Finset.sum_range_zero, Nat.reduceAdd, Nat.reducePow, zero_add] <;> omega
  have lt : Spec.count k u < 2 ^ 30 := by
    rw [count_eq]
    interval_cases k <;> simp only [Finset.sum_range_succ, Finset.sum_range_zero, Nat.reduceAdd, Nat.reducePow, zero_add] <;> omega
  rw [BitVec.toInt_eq_toNat_of_lt (by rw [e]; omega), e]

/-- A small word read as a signed number. -/
theorem toInt_and12 (u : BitVec 32) : (u &&& 4095#32).toInt = ((u &&& 4095#32).toNat : ℤ) :=
  BitVec.toInt_eq_toNat_of_lt (by rw [and12]; omega)

theorem toInt_bit (u : BitVec 32) (n : ℕ) : (u >>> n &&& 1#32).toInt = ((u >>> n &&& 1#32).toNat : ℤ) :=
  BitVec.toInt_eq_toNat_of_lt (by rw [bitAt]; omega)

end Cert.Count
-- ==== Proof.RefOps.lean ====
module

public import proofs.«01_k».proof.Proof.Gen.ReferenceIdeal.Launch
public import Idealize.ShloMosaic.Lib.StableHlo.ReadAt
public import proofs.«01_k».proof.Proof.Count

/-! # The reference's host operations, read at an index -/

@[expose] public section

set_option maxRecDepth 16384

noncomputable section

namespace Cert.ReferenceIdeal.Values

open Cert.ReferenceIdeal.Gen
open Idealize.ShloMosaic Idealize.ShloMosaic.StableHlo

variable (V : Valuation τ sig (Elt Ideal))

/-- The scaled logits. -/
theorem v8_at (D : Fin 480 → Fin 65536 → EReal) (xs : Fin 160 → Fin 3 → EReal) (ws : Fin 65536 → EReal)
    (hD : ∀ r v, V (Proc.devRef .tc main_v1) (ix2 r v) = D r v) (hxs : ∀ b k, V (Proc.devRef .tc main_arg1) (ix2 b k) = xs b k)
    (hws : ∀ v, V (Proc.devRef .tc main_arg3) (ix1 v) = ws v) (b : Fin 160) (k : Fin 3) (v : Fin 65536) :
    after hostOps1 V (Proc.devRef .tc main_v8) (ix3 b k v) = D ⟨b.val * 3 + k.val, by omega⟩ v * xs b k * ws v := by
  after_reads_at
  rw [hD, hxs, hws]

/-- A right shift by a word in range. -/
theorem shr (x y : BitVec 32) (n : ℕ) (h : y.toNat = n) (hn : n < 32) : IntOp.shrui .host x y = x >>> n := by
  unfold IntOp.shrui
  rw [if_pos (by omega), ← h]
  rfl

/-- The place of the bit of a draft position. -/
theorem place_toNat (k : Fin 3) (u : BitVec 32) :
    (IntOp.addi (IntOp.addi (12#32) (BitVec.ofNat 32 k.val)) (IntOp.muli (0#32) u)).toNat = 12 + k.val := by
  have : IntOp.muli (0#32) u = 0#32 := BitVec.zero_mul
  rw [this]
  fin_cases k <;> rfl

/-- A bit of a word, as a number. -/
theorem bit_real (x y u : BitVec 32) (k : Fin 3) (hy : y = IntOp.addi (IntOp.addi (12#32) (BitVec.ofNat 32 k.val)) (IntOp.muli (0#32) u)) :
    (FloatOps.sitofp (F := Ideal) .f32 (IntOp.andi (IntOp.shrui .host x y) 1#32) : EReal) = (((x >>> (12 + k.val) &&& 1#32).toNat : ℝ) : EReal) := by
  rw [shr x y (12 + k.val) (by rw [hy, place_toNat]) (by omega)]
  show (((IntOp.andi (x >>> (12 + k.val)) 1#32).toInt : ℝ) : EReal) = _
  rw [show IntOp.andi (x >>> (12 + k.val)) 1#32 = x >>> (12 + k.val) &&& 1#32 from rfl, Count.toInt_bit]
  norm_cast

theorem v32_at (C : Fin 80 → Fin 65536 → BitVec 32) (hC : ∀ b v, V (Proc.devRef .tc main_arg4) (ix2 b v) = C b v)
    (A : Spec.Args) (hA : A.cnt = C) (b : Fin 160) (k : Fin 3) (v : Fin 65536) :
    after hostOps1 V (Proc.devRef .tc main_v32) (ix3 b k v) = (((Spec.field A b v >>> (12 + k.val) &&& 1#32).toNat : ℝ) : EReal) := by
  subst hA
  after_reads_at
  unfold Spec.field
  split
  · after_reads_at
    rw [hC]
    exact bit_real _ _ _ k rfl
  · after_reads_at
    rw [hC, shr (A.cnt _ _) 16#32 16 rfl (by decide)]
    exact bit_real _ _ _ k rfl

theorem v33_at (C : Fin 80 → Fin 65536 → BitVec 32) (hC : ∀ b v, V (Proc.devRef .tc main_arg4) (ix2 b v) = C b v)
    (A : Spec.Args) (hA : A.cnt = C) (b : Fin 160) (v : Fin 65536) :
    after hostOps1 V (Proc.devRef .tc main_v33) (ix3 b 0 v) = (((Spec.field A b v &&& 4095#32).toNat : ℝ) : EReal) := by
  subst hA
  have e : ∀ u : BitVec 32, (FloatOps.sitofp (F := Ideal) .f32 (IntOp.andi u 4095#32) : EReal) = (((u &&& 4095#32).toNat : ℝ) : EReal) := by
    intro u
    show (((u &&& 4095#32).toInt : ℝ) : EReal) = _
    rw [Count.toInt_and12]
    norm_cast
  after_reads_at
  unfold Spec.field
  split
  · after_reads_at
    rw [hC]
    exact e _
  · after_reads_at
    rw [hC, shr (A.cnt _ _) 16#32 16 rfl (by decide)]
    exact e _

/-- The position inside a window. -/
theorem window_pos : ∀ n : Fin 3, ∀ a : Fin 3,
    ((⟨3, ![1, 3, 1]⟩ : Shape).rowMajor.symm (n.cast (by decide)) a).val = ![0, n.val, 0] a := by decide

/-- A running sum along the draft positions. -/
theorem window_at (x : S160x3x65536.Idx → EReal) (y : S_.Idx → EReal) (hy : ∀ i, y i = 0) (b : Fin 160) (k : Fin 3) (v : Fin 65536) :
    (Host.reduceWindowAdd (F := Ideal) (φ := .f32) (s := S160x3x65536) (t := S160x3x65536) ![1, 3, 1] ![1, 1, 1] ![0, 2, 0] ![0, 0, 0] x y
      reduceWindows_S160x3x65536_S160x3x65536_w1s1p0_0_w3s1p2_0_w1s1p0_0 h_S_) (ix3 b k v)
      = ∑ i : Fin 3, if i.val ≤ k.val then x (ix3 b i v) else 0 := by
  show Host.reduceWindow (· + ·) ![1, 3, 1] ![1, 1, 1] ![0, 2, 0] ![0, 0, 0] x (fun _ => y (Shape.Idx.first h_S_))
      reduceWindows_S160x3x65536_S160x3x65536_w1s1p0_0_w3s1p2_0_w1s1p0_0 h_S_ (ix3 b k v) = _
  unfold Host.reduceWindow
  simp only [hy]
  have step : ∀ n : Fin 3, ∀ r : EReal, (r + if h : ∀ a : Fin 3,
      ![0, 2, 0] a ≤ (ix3 b k v a).val * ![1, 1, 1] a + ((⟨3, ![1, 3, 1]⟩ : Shape).rowMajor.symm (n.cast (by decide)) a).val
      ∧ (ix3 b k v a).val * ![1, 1, 1] a + ((⟨3, ![1, 3, 1]⟩ : Shape).rowMajor.symm (n.cast (by decide)) a).val - ![0, 2, 0] a < ![160, 3, 65536] a
      then x fun a => ⟨(ix3 b k v a).val * ![1, 1, 1] a + ((⟨3, ![1, 3, 1]⟩ : Shape).rowMajor.symm (n.cast (by decide)) a).val - ![0, 2, 0] a, (h a).2⟩
      else 0) = r + (if h : 2 ≤ k.val + n.val then x (ix3 b ⟨k.val + n.val - 2, by omega⟩ v) else 0) := by
    intro n r
    congr 1
    by_cases h : 2 ≤ k.val + n.val
    · rw [dif_pos h, dif_pos]
      · congr 1
        funext a
        apply Fin.ext
        simp only [window_pos]
        fin_cases a <;> simp [ix3]
      · intro a
        rw [window_pos]
        fin_cases a <;> simp [ix3] <;> omega
    · rw [dif_neg h, dif_neg]
      intro hh
      have := (hh 1).1
      rw [window_pos] at this
      simp [ix3] at this
      omega
  refine (List.foldl_ext _ (fun (r : EReal) (n : Fin 3) => r + (if h : 2 ≤ k.val + n.val then x (ix3 b ⟨k.val + n.val - 2, by omega⟩ v) else 0)) 0 (l := List.finRange 3) ?_).trans ?_
  · exact fun r n _ => step n r
  fin_cases k <;> simp [List.finRange_succ, Fin.sum_univ_three]

/-- The number of accepted draft tokens up to and including a position. -/
theorem v34_at (B : Fin 160 → Fin 3 → Fin 65536 → ℝ) (hB : ∀ b k v, V (Proc.devRef .tc main_v32) (ix3 b k v) = (B b k v : EReal))
    (b : Fin 160) (k : Fin 3) (v : Fin 65536) :
    after hostOps1_1 V (Proc.devRef .tc main_v34) (ix3 b k v) = ((∑ i : Fin 3, if i.val ≤ k.val then B b i v else 0 : ℝ) : EReal) := by
  after_reads_at
  refine (window_at (V (Proc.devRef .tc main_v32)) _ (fun i => by pointwise [broadcastInDim]) b k v).trans ?_
  rw [← Maths.coe_sum]
  refine Finset.sum_congr rfl fun i _ => ?_
  split
  · exact hB b i v
  · rfl

/-- The penalty as the operations spell it. -/
theorem pen_ops (z : EReal) (c0 c1 p : ℝ) (f r : EReal) :
    (if (0 : EReal) < (c0 : EReal) + (c1 : EReal) then (if (0 : EReal) < z then Ideal.div z r else z * r) else z)
      - ((c0 : EReal) + (c1 : EReal)) * f
      - (FloatOps.uitofp (F := Ideal) .f32 (BitVec.ofBool (decide ((0 : EReal) < (c0 : EReal) + (c1 : EReal)))) : EReal) * p
      = Maths.pen z (c0 + c1) p f r := by
  rw [← Maths.pen_in_turn z (c0 + c1) p f r, EReal.coe_add]
  have e : (FloatOps.uitofp (F := Ideal) .f32 (BitVec.ofBool (decide ((0 : EReal) < (c0 : EReal) + (c1 : EReal)))) : EReal)
      = if (0 : EReal) < (c0 : EReal) + (c1 : EReal) then (1 : EReal) else 0 := by
    show (((BitVec.ofBool (decide ((0 : EReal) < (c0 : EReal) + (c1 : EReal)))).toNat : ℝ) : EReal) = _
    by_cases h : (0 : EReal) < (c0 : EReal) + (c1 : EReal) <;> simp [h]
  rw [e]

/-- What the penalties are computed from. -/
structure Parts (z : Fin 160 → Fin 3 → Fin 65536 → EReal) (c0 : Fin 160 → Fin 65536 → ℝ) (c1 : Fin 160 → Fin 3 → Fin 65536 → ℝ) (p : Fin 160 → ℝ) (f r : Fin 160 → EReal) : Prop where
  hz : ∀ b k v, V (Proc.devRef .tc main_v8) (ix3 b k v) = z b k v
  h0 : ∀ b v, V (Proc.devRef .tc main_v33) (ix3 b 0 v) = (c0 b v : EReal)
  h1 : ∀ b k v, V (Proc.devRef .tc main_v34) (ix3 b k v) = (c1 b k v : EReal)
  hp : ∀ b, V (Proc.devRef .tc main_arg5) (ix1 b) = (p b : EReal)
  hf : ∀ b, V (Proc.devRef .tc main_arg6) (ix1 b) = f b
  hr' : ∀ b, V (Proc.devRef .tc main_arg7) (ix1 b) = r b

variable {V} {z : Fin 160 → Fin 3 → Fin 65536 → EReal} {c0 : Fin 160 → Fin 65536 → ℝ} {c1 : Fin 160 → Fin 3 → Fin 65536 → ℝ} {p : Fin 160 → ℝ} {f r : Fin 160 → EReal}

/-- The penalised logits, from the scaled logits and the two parts of the count. -/
theorem v56_at (h : Parts V z c0 c1 p f r) (b : Fin 160) (k : Fin 3) (v : Fin 65536) :
    after hostOps1_5 (after hostOps1_4 (after hostOps1_3 (after hostOps1_2 V))) (Proc.devRef .tc main_v56) (ix3 b k v)
      = Maths.pen (z b k v) (c0 b v + c1 b k v) (p b) (f b) (r b) := by
  after_reads_at
  rw [h.hz, h.h0, h.h1, h.hp, h.hf, h.hr']
  exact pen_ops _ _ _ _ _ _

/-- The bits the maximum starts from are those of minus infinity. -/
theorem bottom : (Ideal.ofBits FTy.f32 4286578688#32 : EReal) = ⊥ := by
  show Ideal.ieee 8 23 4286578688#32 = ⊥
  unfold Ideal.ieee
  have h1 : (BitVec.extractLsb' 23 8 4286578688#32).toNat = 2 ^ 8 - 1 := by decide
  have h2 : (BitVec.extractLsb' 0 23 4286578688#32).toNat = 0 := by decide
  have h3 : (BitVec.extractLsb' (8 + 23) 1 4286578688#32 == 1#1) = true := by decide
  simp only [h1, h2, h3, if_true]

/-- The logarithm of the sum of exponentials. -/
theorem v64_at (h : Parts V z c0 c1 p f r) (b : Fin 160) (k : Fin 3) :
    after hostOps1_5 (after hostOps1_4 (after hostOps1_3 (after hostOps1_2 V))) (Proc.devRef .tc main_v64) (ix2 b k)
      = Maths.logSum (∑ v, Ideal.exp (Maths.pen (z b k v) (c0 b v + c1 b k v) (p b) (f b) (r b))) := by
  after_reads_at
  simp only [h.hz, h.h0, h.h1, h.hp, h.hf, h.hr', pen_ops]
  rw [bottom]
  exact Maths.log_sum_exp _

/-- The gather takes a row's own entries: its first two coordinates are the result's. -/
theorem gather_row (i : S160x3x20.Idx) (a : Fin 2) :
    (gather_S160x3x65536_S160x3x20x1_S160x3x20_n_2_01_01_2_3_111).batchCoord i (a.castLE (by decide)) = (i (a.castLE (by decide))).val := by
  have ha : (a.castLE (by decide) : Fin 3) ∈ (gather_S160x3x65536_S160x3x20x1_S160x3x20_n_2_01_01_2_3_111).operandBatchingDims := by
    fin_cases a <;> decide +kernel
  unfold GatherDims.batchCoord
  rw [dif_pos ha]
  unfold GatherDims.siCoord
  simp only [Fin.val_cast]
  refine congrArg (fun c => (i c).val) ?_
  fin_cases a <;> decide +kernel +revert

/-- It adds nothing on the axes it does not index. -/
theorem gather_rest (i : S160x3x20.Idx) (idx : IVec S160x3x20x1 32) (a : Fin 2) :
    (gather_S160x3x65536_S160x3x20x1_S160x3x20_n_2_01_01_2_3_111).start i idx (a.castLE (by decide)) = 0
      ∧ (gather_S160x3x65536_S160x3x20x1_S160x3x20_n_2_01_01_2_3_111).offCoord i (a.castLE (by decide)) = 0 := by
  constructor
  · unfold GatherDims.start
    rw [dif_neg]
    fin_cases a <;> decide +kernel
  · unfold GatherDims.offCoord
    rw [dif_neg]
    fin_cases a <;> decide +kernel

/-- The candidates' values. -/
theorem v65_at (b : Fin 160) (k : Fin 3) (j : Fin 20) (q : Fin 65536) (y : EReal) (hq : V (Proc.devRef .tc main_arg8) (ix3 b k j) = BitVec.ofNat 32 q.val)
    (hy : V (Proc.devRef .tc main_v56) (ix3 b k q) = y) :
    after hostOps1_6 V (Proc.devRef .tc main_v65) (ix3 b k j) = y := by
  after_reads_at
  have hlt : q.val < 65536 := q.isLt
  have hi : ∀ n : ℕ, n < 65536 → (BitVec.ofNat 32 n).toInt = (n : ℤ) := fun n hn => by
    rw [BitVec.toInt_ofNat', Int.bmod_def]
    split <;> omega
  have hs : IntOp.cmpi .slt (BitVec.ofNat 32 q.val) 0#32 = 0#1 := by
    show BitVec.ofBool ((BitVec.ofNat 32 q.val).slt 0#32) = 0#1
    rw [BitVec.slt_eq_decide, hi _ hlt, decide_eq_false (by simp)]
    rfl
  have hge : IntOp.cmpi .sge (BitVec.ofNat 32 q.val) 0#32 = 1#1 := by
    show BitVec.ofBool ((0#32).sle (BitVec.ofNat 32 q.val)) = 1#1
    rw [BitVec.sle_eq_decide, hi _ hlt, decide_eq_true (by simp)]
    rfl
  have hle : IntOp.cmpi .sle (BitVec.ofNat 32 q.val) 65535#32 = 1#1 := by
    show BitVec.ofBool ((BitVec.ofNat 32 q.val).sle 65535#32) = 1#1
    rw [BitVec.sle_eq_decide, hi _ hlt, hi 65535 (by decide), decide_eq_true (by omega)]
    rfl
  have hw : Scalar.select (IntOp.cmpi .slt (V (Proc.devRef .tc main_arg8) (ix3 b k j)) 0#32)
      (IntOp.addi (V (Proc.devRef .tc main_arg8) (ix3 b k j)) 65536#32) (V (Proc.devRef .tc main_arg8) (ix3 b k j)) = BitVec.ofNat 32 q.val := by
    rw [hq, hs]
    rfl
  rw [hw, hge, hle]
  have hf : Finset.fold IntOp.andi (1#1) (fun _ : Fin 1 => IntOp.andi 1#1 1#1) Finset.univ = 1#1 := by decide
  rw [hf]
  show Host.gather _ _ _ _ = _
  rw [← hy]
  unfold Host.gather
  congr 1
  funext a
  apply Fin.ext
  fin_cases a
  · refine (congrArg₂ (· + ·) (congrArg₂ (· + ·) (gather_rest _ _ 0).1 (gather_row (ix3 b k j) 0)) (gather_rest (ix3 b k j) (fun _ => 0#32) 0).2).trans ?_
    show 0 + b.val + 0 = b.val
    omega
  · refine (congrArg₂ (· + ·) (congrArg₂ (· + ·) (gather_rest _ _ 1).1 (gather_row (ix3 b k j) 1)) (gather_rest (ix3 b k j) (fun _ => 0#32) 1).2).trans ?_
    show 0 + k.val + 0 = k.val
    omega
  · show min (BitVec.toInt _).toNat (65536 - 1) + 0 + 0 = q.val
    refine (congrArg (fun u : BitVec 32 => min u.toInt.toNat (65536 - 1) + 0 + 0) hw).trans ?_
    show min (BitVec.ofNat 32 q.val).toInt.toNat (65536 - 1) + 0 + 0 = q.val
    rw [hi _ hlt]
    simp
    omega

/-- The candidates' log-probabilities. -/
theorem v68_at (V : Valuation τ sig (Elt Ideal)) (b : Fin 160) (k : Fin 3) (j : Fin 20) (y l : EReal) (hy : V (Proc.devRef .tc main_v65) (ix3 b k j) = y)
    (hl : V (Proc.devRef .tc main_v64) (ix2 b k) = l) :
    after hostOps1_7 V (Proc.devRef .tc main_v68) (ix3 b k j) = y - l := by
  after_reads_at
  rw [hy, hl]

end Cert.ReferenceIdeal.Values
-- ==== Proof.RefValue.lean ====
module

public import proofs.«01_k».proof.Proof.Gen.ReferenceIdeal.Frame
public import Idealize.ShloMosaic.Lib.Pipeline.ValueKit.Geometry
public import Idealize.ShloMosaic.Lib.Pipeline.Value
public import proofs.«01_k».proof.Proof.RefOps

/-! # What the reference ends with

The reference's three results, as the specification has them. -/

@[expose] public section

noncomputable section

namespace Cert.ReferenceIdeal.Values

open Cert.ReferenceIdeal.Gen
open Idealize.ShloMosaic Idealize.ShloMosaic.TcCoe Idealize.ShloMosaic.StableHlo
open Idealize.SL.Sem

/-- The product of the rows and the weights. -/
def product (X : S480x5120.Idx → EReal) (W : S5120x65536.Idx → EReal) : S480x65536.Idx → EReal :=
  fun y => ∑ i : Fin 5120, X (ix2 (y 0) i) * W (ix2 i (y 1))

/-- Its entries, from those of the factors. -/
theorem product_at (X : S480x5120.Idx → EReal) (W : S5120x65536.Idx → EReal) (x : Fin 480 → Fin 5120 → EReal) (w : Fin 5120 → Fin 65536 → EReal)
    (r : Fin 480) (v : Fin 65536) (hX : ∀ i, X (ix2 r i) = x r i) (hW : ∀ i, W (ix2 i v) = w i v) :
    product X W (ix2 r v) = ∑ i, x r i * w i v :=
  Finset.sum_congr rfl fun i _ => congrArg₂ (fun a b : EReal => a * b) (hX i) (hW i)

/-- The region's body computes it. -/
theorem body_value (X : S480x5120.Idx → EReal) (W : S5120x65536.Idx → EReal) : k0_pay1 (F := Ideal) X W = product X W := by
  funext y
  unfold k0_pay1 product
  pointwise

variable (m : (ℓ : Loc nD τ sig) → Buf (Elt Ideal) ℓ) (ρ : Dev nD → PrngReg)

/-- The region's result. -/
theorem region_value (c : Dev nD) : (dats m 0 c).arrAt 2 cfg0.N
    = (product (V0 m c (Proc.devRef .tc main_v0)) (V0 m c (Proc.devRef .tc main_arg2)) : S480x65536.Idx → EReal) := by
  refine Pipeline.Dat.arrAt_eq_of_covers (dats m 0 c) 2 _ (by decide +kernel) fun t _ y => ?_
  rw [after0_2]
  unfold out0_2
  have h0 : (![0, 0] : Fin 2 → ℕ) = fun _ => 0 := by funext a; fin_cases a <;> rfl
  rw [View.canon_unit_zero h0, View.ld_unit_zero h0, View.ld_unit_zero h0]
  have e0 : iblk m c 0 t = V0 m c (Proc.devRef .tc main_v0) := by
    funext y
    refine congrArg (V0 m c (Proc.devRef .tc main_v0)) ?_
    funext a
    apply Fin.ext
    fin_cases t
    fin_cases a <;> simp [View.emb] <;> rfl
  have e1 : iblk m c 1 t = V0 m c (Proc.devRef .tc main_arg2) := by
    funext y
    refine congrArg (V0 m c (Proc.devRef .tc main_arg2)) ?_
    funext a
    apply Fin.ext
    fin_cases t
    fin_cases a <;> simp [View.emb] <;> rfl
  have e2 : ((cfg0.win 2).blk t).view.emb y = (cfg0.win 2).xinj (cfg0.grid.coords t) y := by
    funext a
    apply Fin.ext
    fin_cases t
    fin_cases a <;> simp [View.emb] <;> rfl
  rw [e0, e1, e2]
  exact (cast_eq _ _).trans (congrFun (body_value _ _) _)

/-- The device's buffers as the region leaves them. -/
abbrev left (c : Dev nD) : Valuation τ sig (Elt Ideal) :=
  Pipeline.withArrays (cfgs 0).spec c (V0 m c) fun w => (dats m 0 c).arrAt w (cfgs 0).N

theorem left_product (c : Dev nD) : left m c (Proc.devRef .tc main_v1)
    = (product (V0 m c (Proc.devRef .tc main_v0)) (V0 m c (Proc.devRef .tc main_arg2)) : S480x65536.Idx → EReal) :=
  (Pipeline.withArrays_arr (cfgs 0).spec winFacts0.arr_inj c (V0 m c) (fun w => (dats m 0 c).arrAt w (cfgs 0).N) 2).trans (region_value m c)

theorem left_arg (c : Dev nD) (b : Ref sig .tc) (hb : ∀ w, Pipeline.arrRef spec0 w ≠ b) : left m c (Proc.devRef .tc b) = V0 m c (Proc.devRef .tc b) :=
  Pipeline.withArrays_of_ne _ c (V0 m c) _ b hb

variable (A : Spec.Args)

/-- The argument arrays of a device hold the arguments. -/
def Holds (c : Dev nD) : Prop :=
  Spec.Given A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

variable {A} {m}

theorem left_at {c : Dev nD} (h : Holds m A c) (r : Fin 480) (v : Fin 65536) :
    left m c (Proc.devRef .tc main_v1) (ix2 r v) = ((∑ i, A.x ⟨r.val / 3, by omega⟩ ⟨r.val % 3, by omega⟩ i * A.w i v : EReal)) := by
  have ex : ∀ i : Fin 5120, V0 m c (Proc.devRef .tc main_v0) (ix2 r i) = A.x ⟨r.val / 3, by omega⟩ ⟨r.val % 3, by omega⟩ i := fun i => by
    refine Eq.trans ?_ (h.x _ _ i)
    unfold V0
    rw [List.flatten_cons, List.flatten_nil, List.append_nil]
    after_reads_at
  have ew : ∀ i : Fin 5120, V0 m c (Proc.devRef .tc main_arg2) (ix2 i v) = A.w i v := fun i => (congrFun (V_main_arg2 m c) _).trans (h.w i v)
  exact (congrFun (left_product m c) (ix2 r v)).trans
    (product_at _ _ (fun r i => A.x ⟨r.val / 3, by omega⟩ ⟨r.val % 3, by omega⟩ i) A.w r v ex ew)

/-- The running sum of the bits of the draft positions. -/
theorem count_sum (k : Fin 3) (u : BitVec 32) :
    ((u &&& 4095#32).toNat : ℝ) + (∑ i : Fin 3, if i.val ≤ k.val then ((u >>> (12 + i.val) &&& 1#32).toNat : ℝ) else 0)
      = (Spec.count k.val u : ℝ) := by
  unfold Spec.count
  push_cast
  congr 1
  fin_cases k <;> simp [Fin.sum_univ_three, Finset.sum_range_succ]

/-- An argument is as launched when the region is left. -/
theorem entry (c : Dev nD) (b : Ref sig .tc) (hw : ∀ w, Pipeline.arrRef spec0 w ≠ b) (hV : V m c b = m ((c : Thread nD τ).loc b)) :
    left m c (Proc.devRef .tc b) = m ((c : Thread nD τ).loc b) :=
  (left_arg m c b hw).trans hV

/-- And after the running sum. -/
theorem entry_mid (c : Dev nD) (b : Ref sig .tc) (hw : ∀ w, Pipeline.arrRef spec0 w ≠ b) (hV : V m c b = m ((c : Thread nD τ).loc b))
    (h0 : b ∉ hostOps1_W) (h1 : b ∉ hostOps1_1_W) :
    after hostOps1_1 (after hostOps1 (left m c)) (Proc.devRef .tc b) = m ((c : Thread nD τ).loc b) :=
  (after_of_writes_sub (r := b) hostOps1_1 _ hostOps1_1_writes h1).trans
    ((after_of_writes_sub (r := b) hostOps1 _ hostOps1_writes h0).trans (entry c b hw hV))

/-- What the penalties are computed from, at the arguments. -/
theorem parts {c : Dev nD} (h : Holds m A c) : Parts (after hostOps1_1 (after hostOps1 (left m c))) (Spec.z A)
    (fun b v => ((Spec.field A b v &&& 4095#32).toNat : ℝ))
    (fun b k v => ∑ i : Fin 3, if i.val ≤ k.val then ((Spec.field A b v >>> (12 + i.val) &&& 1#32).toNat : ℝ) else 0) A.p A.f A.r where
  hz b k v := by
    rw [after_of_writes_sub (r := main_v8) hostOps1_1 _ hostOps1_1_writes (by decide +kernel)]
    refine (v8_at (left m c) (fun r v => ∑ i, A.x ⟨r.val / 3, by omega⟩ ⟨r.val % 3, by omega⟩ i * A.w i v) A.xs A.ws
      (left_at h) (fun b k => ?_) (fun v => ?_) b k v).trans ?_
    · rw [entry c main_arg1 (by decide) (V_main_arg1 m c)]
      exact h.xs b k
    · rw [entry c main_arg3 (by decide) (V_main_arg3 m c)]
      exact h.ws v
    · have e1 : (⟨(b.val * 3 + k.val) / 3, by omega⟩ : Fin 160) = b := Fin.ext (by show (b.val * 3 + k.val) / 3 = b.val; omega)
      have e2 : (⟨(b.val * 3 + k.val) % 3, by omega⟩ : Fin 3) = k := Fin.ext (by show (b.val * 3 + k.val) % 3 = k.val; omega)
      unfold Spec.z
      rw [e1, e2]
  h0 b v := by
    rw [after_of_writes_sub (r := main_v33) hostOps1_1 _ hostOps1_1_writes (by decide +kernel)]
    refine v33_at (left m c) A.cnt (fun b v => ?_) A rfl b v
    rw [entry c main_arg4 (by decide) (V_main_arg4 m c)]
    exact h.cnt b v
  h1 b k v := by
    refine v34_at (after hostOps1 (left m c)) (fun b k v => ((Spec.field A b v >>> (12 + k.val) &&& 1#32).toNat : ℝ)) (fun b k v => ?_) b k v
    refine v32_at (left m c) A.cnt (fun b v => ?_) A rfl b k v
    rw [entry c main_arg4 (by decide) (V_main_arg4 m c)]
    exact h.cnt b v
  hp b := by
    rw [entry_mid c main_arg5 (by decide) (V_main_arg5 m c) (by decide) (by decide)]
    exact h.p b
  hf b := by
    rw [entry_mid c main_arg6 (by decide) (V_main_arg6 m c) (by decide) (by decide)]
    exact h.f b
  hr' b := by
    rw [entry_mid c main_arg7 (by decide) (V_main_arg7 m c) (by decide) (by decide)]
    exact h.r b

/-- The device's buffers when the logits are penalised and summed. -/
abbrev late (m : (ℓ : Loc nD τ sig) → Buf (Elt Ideal) ℓ) (c : Dev nD) : Valuation τ sig (Elt Ideal) :=
  after hostOps1_5 (after hostOps1_4 (after hostOps1_3 (after hostOps1_2 (after hostOps1_1 (after hostOps1 (left m c))))))

theorem late_z2 {c : Dev nD} (h : Holds m A c) (b : Fin 160) (k : Fin 3) (v : Fin 65536) :
    late m c (Proc.devRef .tc main_v56) (ix3 b k v) = Spec.z2 A b k v := by
  refine (v56_at (parts h) b k v).trans ?_
  unfold Spec.z2
  rw [count_sum]

theorem late_lse {c : Dev nD} (h : Holds m A c) (b : Fin 160) (k : Fin 3) :
    late m c (Proc.devRef .tc main_v64) (ix2 b k) = Spec.lse A b k := by
  refine (v64_at (parts h) b k).trans ?_
  unfold Spec.lse Spec.z2
  simp only [count_sum]

/-- The candidates are still as launched. -/
theorem late_cand {c : Dev nD} : late m c (Proc.devRef .tc main_arg8) = m ((c : Thread nD τ).loc main_arg8) := by
  unfold late
  rw [after_of_writes_sub (r := main_arg8) hostOps1_5 _ hostOps1_5_writes (by decide +kernel),
    after_of_writes_sub (r := main_arg8) hostOps1_4 _ hostOps1_4_writes (by decide +kernel),
    after_of_writes_sub (r := main_arg8) hostOps1_3 _ hostOps1_3_writes (by decide +kernel),
    after_of_writes_sub (r := main_arg8) hostOps1_2 _ hostOps1_2_writes (by decide +kernel)]
  exact entry_mid c main_arg8 (by decide) (V_main_arg8 m c) (by decide) (by decide)

/-- The three results after the last lines. -/
theorem end_z2 {c : Dev nD} (h : Holds m A c) :
    after hostOps1_7 (after hostOps1_6 (late m c)) (Proc.devRef .tc main_v56) = Spec.z2Arr A := by
  rw [after_of_writes_sub (r := main_v56) hostOps1_7 _ hostOps1_7_writes (by decide +kernel),
    after_of_writes_sub (r := main_v56) hostOps1_6 _ hostOps1_6_writes (by decide +kernel)]
  funext y
  rw [ValueIdx.eq_ix3 y]
  exact late_z2 h _ _ _

theorem end_lse {c : Dev nD} (h : Holds m A c) :
    after hostOps1_7 (after hostOps1_6 (late m c)) (Proc.devRef .tc main_v64) = Spec.lseArr A := by
  rw [after_of_writes_sub (r := main_v64) hostOps1_7 _ hostOps1_7_writes (by decide +kernel),
    after_of_writes_sub (r := main_v64) hostOps1_6 _ hostOps1_6_writes (by decide +kernel)]
  funext y
  rw [ValueIdx.eq_ix2 y]
  exact late_lse h _ _

theorem late_logp {c : Dev nD} (h : Holds m A c) (b : Fin 160) (k : Fin 3) (j : Fin 20) :
    after hostOps1_7 (after hostOps1_6 (late m c)) (Proc.devRef .tc main_v68) (ix3 b k j) = Spec.logp A b k j := by
  refine v68_at (after hostOps1_6 (late m c)) b k j (Spec.z2 A b k (A.cand b k j)) (Spec.lse A b k) ?_ ?_
  · refine v65_at (V := late m c) b k j (A.cand b k j) _ ?_ (late_z2 h b k _)
    rw [late_cand]
    exact h.cand b k j
  · rw [after_of_writes_sub (r := main_v64) hostOps1_6 _ hostOps1_6_writes (by decide +kernel)]
    exact late_lse h b k

theorem end_logp {c : Dev nD} (h : Holds m A c) :
    after hostOps1_7 (after hostOps1_6 (late m c)) (Proc.devRef .tc main_v68) = Spec.logpArr A := by
  funext y
  rw [ValueIdx.eq_ix3 y]
  exact late_logp h _ _ _

/-- The contents after the last lines. -/
theorem tail_eq (c : Dev nD) (b : Ref sig .tc) :
    Pipeline.afterTail₀ cfgs (dats m) 0 (V0 m) [hostOps1, hostOps1_1, hostOps1_2, hostOps1_3, hostOps1_4, hostOps1_5, hostOps1_6, hostOps1_7] c b
      = after hostOps1_7 (after hostOps1_6 (late m c)) (Proc.devRef .tc b) := by
  unfold Pipeline.afterTail₀ late
  simp only [List.flatten_cons, List.flatten_nil, List.append_nil, after_append]

/-- The reference runs, ends with the specification's three results, and leaves its arguments as they were. -/
theorem run (A : Dev nD → Spec.Args) (h : ∀ c, Holds m (A c) c) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v64) = Spec.lseArr (A c)
        ∧ r.2.mem ((c.tc : Thread nD τ).loc main_v68) = Spec.logpArr (A c)
        ∧ r.2.mem ((c.tc : Thread nD τ).loc main_v56) = Spec.z2Arr (A c))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))) :=
  (θ_run defs _ _).mono (fun _ hr c => ⟨⟨
      ((hr.1 c).2 main_v64 (Pipeline.mem_restRefs_of main_v64 (by decide) (by decide))).trans ((tail_eq c main_v64).trans (end_lse (h c))),
      ((hr.1 c).2 main_v68 (Pipeline.mem_restRefs_of main_v68 (by decide) (by decide))).trans ((tail_eq c main_v68).trans (end_logp (h c))),
      ((hr.1 c).2 main_v56 (Pipeline.mem_restRefs_of main_v56 (by decide) (by decide))).trans ((tail_eq c main_v56).trans (end_z2 (h c)))⟩, hr.2 c⟩)
    (θ_run_and (run_main m ρ) (unchanged m ρ))

end Cert.ReferenceIdeal.Values
-- ==== Proof.Shape.lean ====
module

public import proofs.«01_k».proof.KernelIdeal

/-! # The head kernel's body as a program of repeated pieces

The printed body is one straight line of loads and stores.  Here the same program is written as it
was meant: for each half `s` of the tile one matrix product, then for each of the twenty groups of
eight rows of the parameter array (group `g`, half `h` of the batch) and each of the three draft
positions `j` one *piece*, which handles the four blocks of 128 columns of that half tile. -/

@[expose] public section

set_option synthInstance.maxSize 4096

noncomputable section

namespace Cert.KernelIdeal.Shaped

open Idealize.ShloMosaic Idealize.SL.Sem
open Shapes1.Facts₀ Shapes2.Facts₀

variable {F : FTy → Type} [FloatOps F] [Facts]

/-- The first of the eight rows a piece handles. -/
def row (h g j : Nat) : Nat := j % 3 * 160 + h % 2 * 80 + g % 10 * 8
/-- The first of the eight parameter rows of a group. -/
def prow (h g : Nat) : Nat := h % 2 * 80 + g % 10 * 8
/-- The first row of a group in the packed count array. -/
def crow (g : Nat) : Nat := g % 10 * 8
/-- The first column of a block inside its half tile. -/
def scol (q : Nat) : Nat := q % 4 * 128
/-- The first column of a block inside the tile. -/
def tcol (s q : Nat) : Nat := s % 2 * 512 + q % 4 * 128

theorem inb2 {a b A B m n : Nat} (h1 : a + m ≤ A) (h2 : b + n ≤ B) :
    ∀ d, (![a, b] : Fin 2 → Nat) d + (⟨2, ![m, n]⟩ : Shape).size d ≤ (⟨2, ![A, B]⟩ : Shape).size d := by
  intro d
  match d with
  | 0 => exact h1
  | 1 => exact h2

theorem row_le (h g j : Nat) : row h g j + 8 ≤ 480 := by unfold row; omega
theorem prow_le (h g : Nat) : prow h g + 8 ≤ 160 := by unfold prow; omega
theorem crow_le (g : Nat) : crow g + 8 ≤ 80 := by unfold crow; omega
theorem scol_le (q : Nat) : scol q + 128 ≤ 512 := by unfold scol; omega
theorem tcol_le (s q : Nat) : tcol s q + 128 ≤ 1024 := by unfold tcol; omega

/-- A parameter column of eight rows, spread over the 128 lanes. -/
def spread (v : Vec F S8x1 .f32) : FVec F S8x128 .f32 :=
  broadcastTo S8x128 (shapeCast S8x1 (shapeCast S8x1 v shapeCasts_S8x1_S8x1) shapeCasts_S8x1_S8x1)
    broadcasts_S8x1_S8x128

/-- The sixteen bits of a count word that belong to half `h` of the batch. -/
def field (h : Nat) (w : IVec S8x128 32) : IVec S8x128 32 :=
  match h with
  | 0 => w
  | _ => shrui w (broadcast S8x128 16#32)

/-- Bit `b` of a field. -/
def bit (b : BitVec 32) (f : IVec S8x128 32) : IVec S8x128 32 :=
  andi (shrui f (broadcast S8x128 b)) (broadcast S8x128 1#32)

/-- The number of earlier occurrences draft position `j` sees. -/
def count (j : Nat) (f : IVec S8x128 32) : IVec S8x128 32 :=
  match j with
  | 0 => addi (andi f (broadcast S8x128 4095#32)) (bit 12#32 f)
  | 1 => addi (addi (andi f (broadcast S8x128 4095#32)) (bit 12#32 f)) (bit 13#32 f)
  | _ => addi (addi (addi (andi f (broadcast S8x128 4095#32)) (bit 12#32 f)) (bit 13#32 f))
      (bit 14#32 f)

/-- The counts as floats. -/
def fcount (h j : Nat) (w : IVec S8x128 32) : FVec F S8x128 .f32 := sitofp .f32 (count j (field h w))

/-- Which entries have been seen. -/
def seen (h j : Nat) (w : IVec S8x128 32) : IVec S8x128 1 :=
  cmpf .ogt (fcount (F := F) h j w) (broadcast S8x128 (Scalar.ofBits .f32 0x00000000#32))

/-- The scaled logits. -/
def scaled (a : Vec F S8x128 .f32) (xs : FVec F S8x128 .f32) (ws : Vec F S1x128 .f32) :
    FVec F S8x128 .f32 :=
  mulf (mulf a xs)
    (broadcastTo S8x128 (shapeCast S1x128 ws shapeCasts_S1x128_S1x128) broadcasts_S1x128_S8x128)

/-- The penalised logits of one block, from the count words, the products, the scales and the
penalties (presence, frequency, repetition, reciprocal of repetition). -/
def penal (h j : Nat) (p f r v xs : FVec F S8x128 .f32) (w : IVec S8x128 32)
    (a : Vec F S8x128 .f32) (ws : Vec F S1x128 .f32) : FVec F S8x128 .f32 :=
  subf
    (mulf (scaled a xs ws)
      (select (cmpf .ogt (scaled a xs ws) (broadcast S8x128 (Scalar.ofBits .f32 0x00000000#32)))
        (select (seen (F := F) h j w) v (broadcast S8x128 (Scalar.ofBits .f32 0x3F800000#32)))
        (select (seen (F := F) h j w) r (broadcast S8x128 (Scalar.ofBits .f32 0x3F800000#32)))))
    (addf (mulf (fcount h j w) f)
      (select (seen (F := F) h j w) p (broadcast S8x128 (Scalar.ofBits .f32 0x00000000#32))))

/-- The candidates' logits after one more block: where the candidate's block is this one, the
block's entry at the candidate's lane. -/
def pick (n : BitVec 32) (blk lane : IVec S8x128 32) (z old : FVec F S8x128 .f32) :
    FVec F S8x128 .f32 :=
  select (cmpi .eq blk (broadcast S8x128 n))
    (dynamicGather 1 z
      (shapeCast S8x128
        (shapeCast S8x128x1
          (select (cmpi .slt lane (broadcast S8x128 0#32))
            (addi lane (broadcast S8x128 128#32)) lane)
          shapeCasts_S8x128_S8x128x1)
        shapeCasts_S8x128x1_S8x128))
    old

/-- The number of the block of 128 columns, in the whole row. -/
def blkNo (i : grid0.Coords) (s q : Nat) : BitVec 32 :=
  Scalar.addi (Scalar.addi (Scalar.muli (BitVec.ofNat 32 (i 0).val) 8#32) (BitVec.ofNat 32 (s * 4)))
    (BitVec.ofNat 32 q)

/-- The running maximum after four blocks. -/
def newMax (m z0 z1 z2 z3 : FVec F S8x128 .f32) : FVec F S8x128 .f32 :=
  maximumf (maximumf (maximumf (maximumf m z0) z1) z2) z3

/-- The running sum of exponentials after four blocks. -/
def newSum (m l z0 z1 z2 z3 : FVec F S8x128 .f32) : FVec F S8x128 .f32 :=
  addf (addf (addf (addf (mulf l (exp (subf m (newMax m z0 z1 z2 z3))))
    (exp (subf z0 (newMax m z0 z1 z2 z3))))
    (exp (subf z1 (newMax m z0 z1 z2 z3))))
    (exp (subf z2 (newMax m z0 z1 z2 z3))))
    (exp (subf z3 (newMax m z0 z1 z2 z3)))

/-- The products of one half tile. -/
def products (x : Vec F S480x5120 .fp8e4m3) (w : Vec F S5120x512 .fp8e4m3) : FVec F S480x512 .f32 :=
  shapeCast S480x512
    (matmul dot_S480x5120_S5120x512_S480x512_1_0_0_1_n_n none
      (shapeCast S480x5120 x shapeCasts_S480x5120_S480x5120) w
      (constant S480x512 .f32 0x00000000#32))
    shapeCasts_S480x512_S480x512

variable (i : grid0.Coords)
  (arg1 : Memref sig .tc .vmem S480x5120 .fp8e4m3) (arg2 : Memref sig .tc .vmem S5120x1024 .fp8e4m3)
  (arg3 : Memref sig .tc .vmem S1x1024 .f32) (arg4 : Memref sig .tc .vmem S80x1024 .i32)
  (arg5 : Memref sig .tc .vmem S160x8 .f32) (arg6 : Memref sig .tc .vmem S480x256 .i32)
  (arg7 : Memref sig .tc .vmem S480x1024 .f32) (arg8 : Memref sig .tc .vmem S480x1 .f32)
  (arg9 : Memref sig .tc .vmem S480x128 .f32) (arg10 : Memref sig .tc .vmem S480x512 .f32)
  (arg11 : Memref sig .tc .vmem S480x128 .f32) (arg12 : Memref sig .tc .vmem S480x128 .f32)
  (arg13 : Memref sig .tc .vmem S480x128 .f32)

/-- Eight rows of a parameter column, spread over the lanes. -/
def loadPar (h g p : Nat) (hp : p + 1 ≤ 8) : Prog (TpuEff nD τ sig (Elt F) Λ₀ .tc) (FVec F S8x128 .f32) := do
  let v : Vec F S8x1 .f32 ← Prog.lift (.load arg5 (Rect.unit (s := S160x8) ![prow h g, p] S8x1.size (inb2 (prow_le h g) hp)).toLoadRect (View.loadsAt_vmem h_S8x1))
  pure (spread v)

/-- One block: the penalised logits are computed and stored. -/
def block (s h g j q : Nat) (p f r v xs : FVec F S8x128 .f32) : Prog (TpuEff nD τ sig (Elt F) Λ₀ .tc) (FVec F S8x128 .f32) := do
  let w : Vec F S8x128 .i32 ← Prog.lift (.load arg4 (Rect.unit (s := S80x1024) ![crow g, tcol s q] S8x128.size (inb2 (crow_le g) (tcol_le s q))).toLoadRect (View.loadsAt_vmem h_S8x128))
  let a : Vec F S8x128 .f32 ← Prog.lift (.load arg10 (Rect.unit (s := S480x512) ![row h g j, scol q] S8x128.size (inb2 (row_le h g j) (scol_le q))).toLoadRect (View.loadsAt_vmem h_S8x128))
  let ws : Vec F S1x128 .f32 ← Prog.lift (.load arg3 (Rect.unit (s := S1x1024) ![0, tcol s q] S1x128.size (inb2 (Nat.le_refl 1) (tcol_le s q))).toLoadRect (View.loadsAt_vmem h_S1x128))
  let d : Vec F S8x128 .f32 ← Prog.lift (.load arg7 (Rect.unit (s := S480x1024) ![row h g j, tcol s q] S8x128.size (inb2 (row_le h g j) (tcol_le s q))).toLoadRect (View.loadsAt_vmem h_S8x128))
  Prog.lift (.store arg7 (Rect.unit (s := S480x1024) ![row h g j, tcol s q] S8x128.size (inb2 (row_le h g j) (tcol_le s q))) (penal h j p f r v xs w a ws) Finset.univ (View.stores_vmem_bits_univ h_S8x128 rfl) (.inl rfl))
  pure (penal h j p f r v xs w a ws)

/-- One piece: eight rows of one draft position, four blocks of 128 columns. -/
def piece (s h g : Nat) (p f r v : FVec F S8x128 .f32) (j : Nat) : Prog (TpuEff nD τ sig (Elt F) Λ₀ .tc) PUnit := do
  let xs ← loadPar arg5 h g (4 + j % 3) (by omega)
  let blk : Vec F S8x128 .i32 ← Prog.lift (.load arg6 (Rect.unit (s := S480x256) ![row h g j, 0] S8x128.size (inb2 (row_le h g j) (by decide))).toLoadRect (View.loadsAt_vmem h_S8x128))
  let lane : Vec F S8x128 .i32 ← Prog.lift (.load arg6 (Rect.unit (s := S480x256) ![row h g j, 128] S8x128.size (inb2 (row_le h g j) (by decide))).toLoadRect (View.loadsAt_vmem h_S8x128))
  let old : Vec F S8x128 .f32 ← Prog.lift (.load arg13 (Rect.unit (s := S480x128) ![row h g j, 0] S8x128.size (inb2 (row_le h g j) (by decide))).toLoadRect (View.loadsAt_vmem h_S8x128))
  let z0 ← block arg3 arg4 arg7 arg10 s h g j 0 p f r v xs
  let z1 ← block arg3 arg4 arg7 arg10 s h g j 1 p f r v xs
  let z2 ← block arg3 arg4 arg7 arg10 s h g j 2 p f r v xs
  let z3 ← block arg3 arg4 arg7 arg10 s h g j 3 p f r v xs
  let d : Vec F S8x128 .f32 ← Prog.lift (.load arg13 (Rect.unit (s := S480x128) ![row h g j, 0] S8x128.size (inb2 (row_le h g j) (by decide))).toLoadRect (View.loadsAt_vmem h_S8x128))
  Prog.lift (.store arg13 (Rect.unit (s := S480x128) ![row h g j, 0] S8x128.size (inb2 (row_le h g j) (by decide)))
    (shapeCast S8x128
      (pick (blkNo i s 3) (shapeCast S8x128 blk shapeCasts_S8x128_S8x128) (shapeCast S8x128 lane shapeCasts_S8x128_S8x128) z3
        (pick (blkNo i s 2) (shapeCast S8x128 blk shapeCasts_S8x128_S8x128) (shapeCast S8x128 lane shapeCasts_S8x128_S8x128) z2
          (pick (blkNo i s 1) (shapeCast S8x128 blk shapeCasts_S8x128_S8x128) (shapeCast S8x128 lane shapeCasts_S8x128_S8x128) z1
            (pick (blkNo i s 0) (shapeCast S8x128 blk shapeCasts_S8x128_S8x128) (shapeCast S8x128 lane shapeCasts_S8x128_S8x128) z0 old))))
      shapeCasts_S8x128_S8x128)
    Finset.univ (View.stores_vmem_bits_univ h_S8x128 rfl) (.inl rfl))
  let m : Vec F S8x128 .f32 ← Prog.lift (.load arg11 (Rect.unit (s := S480x128) ![row h g j, 0] S8x128.size (inb2 (row_le h g j) (by decide))).toLoadRect (View.loadsAt_vmem h_S8x128))
  let l : Vec F S8x128 .f32 ← Prog.lift (.load arg12 (Rect.unit (s := S480x128) ![row h g j, 0] S8x128.size (inb2 (row_le h g j) (by decide))).toLoadRect (View.loadsAt_vmem h_S8x128))
  let d1 : Vec F S8x128 .f32 ← Prog.lift (.load arg11 (Rect.unit (s := S480x128) ![row h g j, 0] S8x128.size (inb2 (row_le h g j) (by decide))).toLoadRect (View.loadsAt_vmem h_S8x128))
  Prog.lift (.store arg11 (Rect.unit (s := S480x128) ![row h g j, 0] S8x128.size (inb2 (row_le h g j) (by decide)))
    (shapeCast S8x128 (newMax m z0 z1 z2 z3) shapeCasts_S8x128_S8x128)
    Finset.univ (View.stores_vmem_bits_univ h_S8x128 rfl) (.inl rfl))
  let d2 : Vec F S8x128 .f32 ← Prog.lift (.load arg12 (Rect.unit (s := S480x128) ![row h g j, 0] S8x128.size (inb2 (row_le h g j) (by decide))).toLoadRect (View.loadsAt_vmem h_S8x128))
  Prog.lift (.store arg12 (Rect.unit (s := S480x128) ![row h g j, 0] S8x128.size (inb2 (row_le h g j) (by decide)))
    (shapeCast S8x128 (newSum m l z0 z1 z2 z3) shapeCasts_S8x128_S8x128)
    Finset.univ (View.stores_vmem_bits_univ h_S8x128 rfl) (.inl rfl))

/-- One group of eight sequences: its penalties are read, then its three draft positions handled.
`t` counts the twenty groups of a half tile: group `t / 2`, half `t % 2` of the batch. -/
def group (s t : Nat) : Prog (TpuEff nD τ sig (Elt F) Λ₀ .tc) PUnit := do
  let p ← loadPar arg5 (t % 2) (t / 2) 0 (by decide)
  let f ← loadPar arg5 (t % 2) (t / 2) 1 (by decide)
  let r ← loadPar arg5 (t % 2) (t / 2) 2 (by decide)
  let v ← loadPar arg5 (t % 2) (t / 2) 3 (by decide)
  piece i arg3 arg4 arg5 arg6 arg7 arg10 arg11 arg12 arg13 s (t % 2) (t / 2) p f r v 0
  piece i arg3 arg4 arg5 arg6 arg7 arg10 arg11 arg12 arg13 s (t % 2) (t / 2) p f r v 1
  piece i arg3 arg4 arg5 arg6 arg7 arg10 arg11 arg12 arg13 s (t % 2) (t / 2) p f r v 2

/-- The products of half tile `s`. -/
def produce (s : Nat) : Prog (TpuEff nD τ sig (Elt F) Λ₀ .tc) PUnit := do
  let x : Vec F S480x5120 .fp8e4m3 ← Prog.lift (.load arg1 (Rect.unit (s := S480x5120) ![0, 0] S480x5120.size inb_S480x5120_S480x5120_0_0).toLoadRect (View.loadsAt_vmem h_S480x5120))
  let w : Vec F S5120x512 .fp8e4m3 ← Prog.lift (.load arg2 (Rect.unit (s := S5120x1024) ![0, s % 2 * 512] S5120x512.size (inb2 (Nat.le_refl _) (by omega))).toLoadRect (View.loadsAt_vmem h_S5120x512))
  let d : Vec F S480x512 .f32 ← Prog.lift (.load arg10 (Rect.unit (s := S480x512) ![0, 0] S480x512.size inb_S480x512_S480x512_0_0).toLoadRect (View.loadsAt_vmem h_S480x512))
  Prog.lift (.store arg10 (Rect.unit (s := S480x512) ![0, 0] S480x512.size inb_S480x512_S480x512_0_0) (products x w) Finset.univ (View.stores_vmem_bits_univ h_S480x512 rfl) (.inl rfl))

/-- A program repeated along a list of indices. -/
def along (f : Nat → Prog (TpuEff nD τ sig (Elt F) Λ₀ .tc) PUnit) : List Nat → Prog (TpuEff nD τ sig (Elt F) Λ₀ .tc) PUnit
  | [] => pure ⟨⟩
  | k :: ks => f k >>= fun _ => along f ks

/-- The running values' start, at the first tile. -/
def start : Prog (TpuEff nD τ sig (Elt F) Λ₀ .tc) PUnit := do
  if k0_h1 : Scalar.cmpi .ne (Scalar.extui (Scalar.cmpi .eq (BitVec.ofNat 32 (i 0).val) 0#32) : BitVec 32) 0#32 = 1#1 then do
    let d1 : Vec F S480x128 .f32 ← Prog.lift (.load arg11 (Rect.unit (s := S480x128) ![0, 0] S480x128.size inb_S480x128_S480x128_0_0).toLoadRect (View.loadsAt_vmem h_S480x128))
    Prog.lift (.store arg11 (Rect.unit (s := S480x128) ![0, 0] S480x128.size inb_S480x128_S480x128_0_0) (shapeCast S480x128 (broadcast S480x128 (Scalar.ofBits .f32 0xFF61B1E6#32)) shapeCasts_S480x128_S480x128) Finset.univ (View.stores_vmem_bits_univ h_S480x128 rfl) (.inl rfl))
    let d2 : Vec F S480x128 .f32 ← Prog.lift (.load arg12 (Rect.unit (s := S480x128) ![0, 0] S480x128.size inb_S480x128_S480x128_0_0).toLoadRect (View.loadsAt_vmem h_S480x128))
    Prog.lift (.store arg12 (Rect.unit (s := S480x128) ![0, 0] S480x128.size inb_S480x128_S480x128_0_0) (shapeCast S480x128 (broadcast S480x128 (Scalar.ofBits .f32 0x00000000#32)) shapeCasts_S480x128_S480x128) Finset.univ (View.stores_vmem_bits_univ h_S480x128 rfl) (.inl rfl))
    let d3 : Vec F S480x128 .f32 ← Prog.lift (.load arg13 (Rect.unit (s := S480x128) ![0, 0] S480x128.size inb_S480x128_S480x128_0_0).toLoadRect (View.loadsAt_vmem h_S480x128))
    Prog.lift (.store arg13 (Rect.unit (s := S480x128) ![0, 0] S480x128.size inb_S480x128_S480x128_0_0) (shapeCast S480x128 (broadcast S480x128 (Scalar.ofBits .f32 0x00000000#32)) shapeCasts_S480x128_S480x128) Finset.univ (View.stores_vmem_bits_univ h_S480x128 rfl) (.inl rfl))
    pure ⟨⟩
  else do
    pure ⟨⟩

/-- The row maxima of the running maxima. -/
def rowMax (m : Vec F S480x128 .f32) : FVec F S480x1 .f32 :=
  shapeCast S480x1 (multiReduction .maximumf [1] S480 m 0xFF800000#32 reduces_S480x128_S480 (.inl rfl) rfl) shapeCasts_S480_S480x1

/-- The logarithm of each row's sum of exponentials. -/
def logSum (m l : Vec F S480x128 .f32) : FVec F S480x1 .f32 :=
  addf (rowMax m)
    (log (shapeCast S480x1
      (multiReduction .add [1] S480
        (mulf l (exp (subf m (broadcastTo S480x128 (rowMax m) broadcasts_S480x1_S480x128))))
        0x00000000#32 reduces_S480x128_S480 (.inl rfl) rfl) shapeCasts_S480_S480x1))

/-- The closing step, at the last tile. -/
def finish : Prog (TpuEff nD τ sig (Elt F) Λ₀ .tc) PUnit := do
  if k0_h2 : k0_cond2 i = 1#1 then do
    let m : Vec F S480x128 .f32 ← Prog.lift (.load arg11 (Rect.unit (s := S480x128) ![0, 0] S480x128.size inb_S480x128_S480x128_0_0).toLoadRect (View.loadsAt_vmem h_S480x128))
    let l : Vec F S480x128 .f32 ← Prog.lift (.load arg12 (Rect.unit (s := S480x128) ![0, 0] S480x128.size inb_S480x128_S480x128_0_0).toLoadRect (View.loadsAt_vmem h_S480x128))
    let d1 : Vec F S480x1 .f32 ← Prog.lift (.load arg8 (Rect.unit (s := S480x1) ![0, 0] S480x1.size inb_S480x1_S480x1_0_0).toLoadRect (View.loadsAt_vmem h_S480x1))
    Prog.lift (.store arg8 (Rect.unit (s := S480x1) ![0, 0] S480x1.size inb_S480x1_S480x1_0_0) (logSum m l) Finset.univ (View.stores_vmem_bits_univ h_S480x1 rfl) (.inl rfl))
    let c : Vec F S480x128 .f32 ← Prog.lift (.load arg13 (Rect.unit (s := S480x128) ![0, 0] S480x128.size inb_S480x128_S480x128_0_0).toLoadRect (View.loadsAt_vmem h_S480x128))
    let d2 : Vec F S480x128 .f32 ← Prog.lift (.load arg9 (Rect.unit (s := S480x128) ![0, 0] S480x128.size inb_S480x128_S480x128_0_0).toLoadRect (View.loadsAt_vmem h_S480x128))
    Prog.lift (.store arg9 (Rect.unit (s := S480x128) ![0, 0] S480x128.size inb_S480x128_S480x128_0_0) (subf c (broadcastTo S480x128 (logSum m l) broadcasts_S480x1_S480x128)) Finset.univ (View.stores_vmem_bits_univ h_S480x128 rfl) (.inl rfl))
    pure ⟨⟩
  else do
    pure ⟨⟩

/-- The whole body. -/
def body : Prog (TpuEff nD τ sig (Elt F) Λ₀ .tc) PUnit := do
  start i arg11 arg12 arg13
  produce arg1 arg2 arg10 0
  along (group i arg3 arg4 arg5 arg6 arg7 arg10 arg11 arg12 arg13 0) [0, 1, 2, 3, 4, 5, 6, 7, 8, 9, 10, 11, 12, 13, 14, 15, 16, 17, 18, 19]
  produce arg1 arg2 arg10 1
  along (group i arg3 arg4 arg5 arg6 arg7 arg10 arg11 arg12 arg13 1) [0, 1, 2, 3, 4, 5, 6, 7, 8, 9, 10, 11, 12, 13, 14, 15, 16, 17, 18, 19]
  finish i arg8 arg9 arg11 arg12 arg13

end Cert.KernelIdeal.Shaped
-- ==== Proof.Triple.lean ====
module

public import proofs.«01_k».proof.Proof.Shape
public import Idealize.ShloMosaic.Lib.VecWindow
public import Idealize.ShloMosaic.Lib.Pipeline.FrameBody
public import Idealize.ShloMosaic.Lib.Tactic

/-! # What the pieces of the body do to the buffers

The buffers a grid point changes are the tile of logits, the products, and the three running values
(maximum, sum, candidates).  Each piece of the body is shown to run from buffers holding one state to
buffers holding a plain function of that state. -/

@[expose] public section

noncomputable section

namespace Cert.KernelIdeal.Shaped

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Shapes1.Facts₀ Shapes2.Facts₀

variable {F : FTy → Type} [FloatOps F] [Facts]

local notation "𝕄" => MT nD τ sig Unit (Elt F) ℕ (UR sig nD τ) ℕ

section rules

variable {s : Shape} {e : EltTy} {α : Type} (c : Dev nD) (E : Set ℕ)

/-- A load from a buffer held at `X` reads a window of `X`. -/
theorem run_load {Q : α → sProp 𝕄} {m : Memref sig .tc .vmem s e} {q : PosShare TreeShare} {X : s.Idx → Elt F e}
    {off size : Fin s.rank → ℕ} {inb : ∀ a, off a + size a ≤ s.size a}
    {hl : m.view.LoadsAt (Rect.unit off size inb).toLoadRect}
    {k : ((Rect.unit off size inb).shape.Idx → Elt F e) → Prog (TpuEff nD τ sig (Elt F) Λ₀ .tc) α} :
    (owns (c : Thread nD τ) m q X : sProp 𝕄)
      ⊢ iprop((owns (c : Thread nD τ) m q X -∗ wp frame (wpE (defs₀ (F := F)) Variants.none c none) E (k (window X off size inb)) Q)
        -∗ wp frame (wpE (defs₀ (F := F)) Variants.none c none) E (.op (.load m (Rect.unit off size inb).toLoadRect hl) k) Q) := by
  unfold owns
  iintro ⟨%f, %hf, H⟩ Hk
  iapply (wp_load (defs := defs₀ (F := F)) Variants.none (c : Thread nD τ) none E (m := m) (r := (Rect.unit off size inb).toLoadRect) (S := m.view.set) (q := q) (f := f) (View.setOn_subset_set _ _)) $$ H
  iintro H
  have e : m.view.readAt (Elt F) (Rect.unit off size inb).toLoadRect f = window X off size inb := by
    rw [View.readAt_unit m.view f inb rfl inb, hf]
  rw [e]
  iapply Hk
  iexists f
  isplitr
  · ipureintro; exact hf
  iexact H

/-- A store into a buffer held at `X` leaves `X` with the payload put over the window. -/
theorem run_store {Q : α → sProp 𝕄} {m : Memref sig .tc .vmem s e} {X : s.Idx → Elt F e}
    {off size : Fin s.rank → ℕ} {inb : ∀ a, off a + size a ≤ s.size a}
    {w : (Rect.unit off size inb).shape.Idx → Elt F e}
    {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} :
    (owns (c : Thread nD τ) m fullShare X : sProp 𝕄)
      ⊢ iprop((owns (c : Thread nD τ) m fullShare (put X off size w) -∗ wp frame (wpE (defs₀ (F := F)) Variants.none c none) E (k ⟨⟩) Q)
        -∗ wp frame (wpE (defs₀ (F := F)) Variants.none c none) E (.op (.store m (Rect.unit off size inb) w Finset.univ hx hm) k) Q) := by
  unfold owns
  iintro ⟨%f, %hf, H⟩ Hk
  iapply (wp_store_writes₀ (defs := defs₀ (F := F)) Variants.none (c : Thread nD τ) none E (m := m) (r := Rect.unit off size inb) (S := m.view.set) (by rw [View.set_slice]; exact View.setOn_subset_set _ _)) $$ H
  iintro H
  iapply Hk
  iexists _
  isplitr
  · ipureintro
    rw [View.read_writes_cons_put m.view f inb w [] rfl, View.writes_nil, hf]
  iexact H

end rules

/-! ## The contents, block by block -/

section contents

/-- The entry of an eight-row block at row `a` and lane `b`. -/
def at8 (a b : ℕ) : S8x128.Idx := fun d =>
  match d with
  | 0 => ⟨a % 8, Nat.mod_lt _ (by decide)⟩
  | 1 => ⟨b % 128, Nat.mod_lt _ (by decide)⟩

/-- An array of 480 rows given by its blocks of eight rows and 128 columns: `w R C` is block `(R, C)`. -/
def blocks {α : Type} {n : ℕ} (w : ℕ → ℕ → S8x128.Idx → α) : (⟨2, ![480, n]⟩ : Shape).Idx → α :=
  fun y => w ((y 0).val / 8) ((y 1).val / 128) (at8 (y 0).val (y 1).val)

/-- `G` on the entries of the first `n` blocks in the order `ord`, `X` on the others. -/
def upto {α : Type} {s : Shape} (ord : s.Idx → ℕ) (n : ℕ) (G X : s.Idx → α) : s.Idx → α :=
  fun y => if ord y < n then G y else X y

/-- The place of a block of eight rows in the order the body handles them. -/
def place (R : ℕ) : ℕ := (R % 10 * 2 + R % 20 / 10) * 3 + R / 20

/-- The place of an entry of the running arrays. -/
def ordRow : S480x128.Idx → ℕ := fun y => place ((y 0).val / 8)
/-- The place of an entry of the tile. -/
def ordTile : S480x1024.Idx → ℕ := fun y => ((y 1).val / 512 * 60 + place ((y 0).val / 8)) * 4 + (y 1).val % 512 / 128

theorem upto_zero {α : Type} {s : Shape} (ord : s.Idx → ℕ) (G X : s.Idx → α) : upto ord 0 G X = X := by
  funext y; exact if_neg (Nat.not_lt_zero _)

theorem upto_all {α : Type} {s : Shape} (ord : s.Idx → ℕ) (n : ℕ) (G X : s.Idx → α) (h : ∀ y, ord y < n) : upto ord n G X = G := by
  funext y; exact if_pos (h y)

/-- The next block put over the ones before. -/
theorem put_upto {α : Type} {s : Shape} (ord : s.Idx → ℕ) (n : ℕ) (G X : s.Idx → α) (off size : Fin s.rank → ℕ)
    (inb : ∀ a, off a + size a ≤ s.size a) (w : ((a : Fin s.rank) → Fin (size a)) → α) (hw : w = window G off size inb)
    (h : ∀ y, ord y = n ↔ ∀ a, off a ≤ (y a).val ∧ (y a).val < off a + size a) :
    put (upto ord n G X) off size w = upto ord (n + 1) G X := by
  funext y
  unfold put upto
  by_cases hy : ∀ a, off a ≤ (y a).val ∧ (y a).val < off a + size a
  · rw [dif_pos hy, if_pos (by have := (h y).mpr hy; omega), hw]
    refine congrArg G (funext fun a => Fin.ext ?_)
    show off a + 1 * ((y a).val - off a) = (y a).val
    have := hy a; omega
  · have : ord y ≠ n := fun e => hy ((h y).mp e)
    rw [dif_neg hy]
    by_cases hl : ord y < n
    · rw [if_pos hl, if_pos (by omega)]
    · rw [if_neg hl, if_neg (by omega)]

/-- A block not yet handled reads what was there at the start. -/
theorem window_upto {α : Type} {s : Shape} (ord : s.Idx → ℕ) (n : ℕ) (G X : s.Idx → α) (off size : Fin s.rank → ℕ)
    (inb : ∀ a, off a + size a ≤ s.size a)
    (h : ∀ y, (∀ a, off a ≤ (y a).val ∧ (y a).val < off a + size a) → ord y = n) :
    window (upto ord n G X) off size inb = window X off size inb := by
  funext y
  refine if_neg ?_
  rw [h _ fun a => ?_]
  · exact Nat.lt_irrefl _
  · have e : ((Rect.unit off size inb).emb y a).val = off a + 1 * (y a).val := rfl
    have h1 := (y a).isLt
    have hs : (Rect.unit off size inb).shape.size a = size a := rfl
    omega

/-- A block of an array given by its blocks. -/
theorem window_blocks {α : Type} {n : ℕ} (w : ℕ → ℕ → S8x128.Idx → α) (R C a b : ℕ) (ha : a = R * 8) (hb : b = C * 128)
    (inb : ∀ d, (![a, b] : Fin 2 → ℕ) d + S8x128.size d ≤ (⟨2, ![480, n]⟩ : Shape).size d) :
    window (s := ⟨2, ![480, n]⟩) (blocks w) ![a, b] S8x128.size inb = w R C := by
  subst ha hb
  funext y
  show w ((R * 8 + 1 * (y 0).val) / 8) ((C * 128 + 1 * (y 1).val) / 128) (at8 (R * 8 + 1 * (y 0).val) (C * 128 + 1 * (y 1).val)) = w R C y
  have h0 : (y 0).val < 8 := (y 0).isLt
  have h1 : (y 1).val < 128 := (y 1).isLt
  rw [show (R * 8 + 1 * (y 0).val) / 8 = R by omega, show (C * 128 + 1 * (y 1).val) / 128 = C by omega]
  refine congrArg _ (funext fun d => ?_)
  match d with
  | 0 => exact Fin.ext (show (R * 8 + 1 * (y 0).val) % 8 = (y 0).val by omega)
  | 1 => exact Fin.ext (show (C * 128 + 1 * (y 1).val) % 128 = (y 1).val by omega)

variable (i : grid0.Coords) (X1 : Vec F S480x5120 .fp8e4m3) (X2 : Vec F S5120x1024 .fp8e4m3) (X3 : Vec F S1x1024 .f32)
  (X4 : Vec F S80x1024 .i32) (X5 : Vec F S160x8 .f32) (X6 : Vec F S480x256 .i32)

/-- A parameter column of a group, spread over the lanes. -/
def par (t p : ℕ) (hp : p + 1 ≤ 8) : FVec F S8x128 .f32 :=
  spread (window (s := S160x8) X5 ![prow (t % 2) (t / 2), p] S8x1.size (inb2 (prow_le (t % 2) (t / 2)) hp))

/-- The products of half tile `s`. -/
def prods (s : ℕ) : Vec F S480x512 .f32 :=
  products (window (s := S480x5120) X1 ![0, 0] S480x5120.size inb_S480x5120_S480x5120_0_0)
    (window (s := S5120x1024) X2 ![0, s % 2 * 512] S5120x512.size (inb2 (Nat.le_refl _) (by omega)))

/-- The logits of block `q` of half tile `s`, for group `t` and draft position `j`. -/
def logits (s t j q : ℕ) : FVec F S8x128 .f32 :=
  penal (t % 2) j (par X5 t 0 (by decide)) (par X5 t 1 (by decide)) (par X5 t 2 (by decide)) (par X5 t 3 (by decide))
    (par X5 t (4 + j % 3) (by omega))
    (window (s := S80x1024) X4 ![crow (t / 2), tcol s q] S8x128.size (inb2 (crow_le (t / 2)) (tcol_le s q)))
    (window (s := S480x512) (prods X1 X2 s) ![row (t % 2) (t / 2) j, scol q] S8x128.size (inb2 (row_le (t % 2) (t / 2) j) (scol_le q)))
    (window (s := S1x1024) X3 ![0, tcol s q] S1x128.size (inb2 (Nat.le_refl 1) (tcol_le s q)))

/-- The group a block of eight rows belongs to. -/
def grp (R : ℕ) : ℕ := R % 10 * 2 + R % 20 / 10

/-- The tile of logits. -/
def tile : Vec F S480x1024 .f32 :=
  blocks fun R C => logits X1 X2 X3 X4 X5 (C / 4) (grp R) (R / 20) (C % 4)

theorem rows_le (R : ℕ) : R % 60 * 8 + 8 ≤ 480 := by omega

/-- Eight rows of a running array. -/
def rows8 (X : Vec F S480x128 .f32) (R : ℕ) : Vec F S8x128 .f32 :=
  window (s := S480x128) X ![R % 60 * 8, 0] S8x128.size (inb2 (rows_le R) (by decide))

/-- Eight rows of the candidates' block numbers (`k = 0`) or lanes (`k = 1`). -/
def cand8 (R k : ℕ) : IVec S8x128 32 :=
  shapeCast S8x128 (window (s := S480x256) X6 ![R % 60 * 8, k % 2 * 128] S8x128.size (inb2 (rows_le R) (by omega)))
    shapeCasts_S8x128_S8x128

/-- The running maximum after half tile `s`. -/
def stepM (s : ℕ) (M : Vec F S480x128 .f32) : Vec F S480x128 .f32 :=
  blocks fun R _ => shapeCast S8x128
    (newMax (rows8 M R) (logits X1 X2 X3 X4 X5 s (grp R) (R / 20) 0) (logits X1 X2 X3 X4 X5 s (grp R) (R / 20) 1)
      (logits X1 X2 X3 X4 X5 s (grp R) (R / 20) 2) (logits X1 X2 X3 X4 X5 s (grp R) (R / 20) 3)) shapeCasts_S8x128_S8x128

/-- The running sum after half tile `s`. -/
def stepL (s : ℕ) (M L : Vec F S480x128 .f32) : Vec F S480x128 .f32 :=
  blocks fun R _ => shapeCast S8x128
    (newSum (rows8 M R) (rows8 L R) (logits X1 X2 X3 X4 X5 s (grp R) (R / 20) 0) (logits X1 X2 X3 X4 X5 s (grp R) (R / 20) 1)
      (logits X1 X2 X3 X4 X5 s (grp R) (R / 20) 2) (logits X1 X2 X3 X4 X5 s (grp R) (R / 20) 3)) shapeCasts_S8x128_S8x128

/-- The candidates' logits after half tile `s`. -/
def stepC (s : ℕ) (C : Vec F S480x128 .f32) : Vec F S480x128 .f32 :=
  blocks fun R _ => shapeCast S8x128
    (pick (blkNo i s 3) (cand8 X6 R 0) (cand8 X6 R 1) (logits X1 X2 X3 X4 X5 s (grp R) (R / 20) 3)
      (pick (blkNo i s 2) (cand8 X6 R 0) (cand8 X6 R 1) (logits X1 X2 X3 X4 X5 s (grp R) (R / 20) 2)
        (pick (blkNo i s 1) (cand8 X6 R 0) (cand8 X6 R 1) (logits X1 X2 X3 X4 X5 s (grp R) (R / 20) 1)
          (pick (blkNo i s 0) (cand8 X6 R 0) (cand8 X6 R 1) (logits X1 X2 X3 X4 X5 s (grp R) (R / 20) 0) (rows8 C R)))))
    shapeCasts_S8x128_S8x128

end contents

/-! ## The order of the blocks -/

theorem place_iff (r t j : ℕ) (hr : r < 480) (ht : t < 20) (hj : j < 3) :
    place (r / 8) = t * 3 + j ↔ row (t % 2) (t / 2) j ≤ r ∧ r < row (t % 2) (t / 2) j + 8 := by
  obtain ⟨J, H, G, e, rfl, hJ, hH, hG, he⟩ : ∃ J H G e, r = J * 160 + H * 80 + G * 8 + e ∧ J < 3 ∧ H < 2 ∧ G < 10 ∧ e < 8 :=
    ⟨r / 160, r % 160 / 80, r % 80 / 8, r % 8, by omega, by omega, by omega, by omega, by omega⟩
  obtain ⟨g, h, rfl, hg, hh⟩ : ∃ g h, t = g * 2 + h ∧ g < 10 ∧ h < 2 := ⟨t / 2, t % 2, by omega, by omega, by omega⟩
  have e1 : place ((J * 160 + H * 80 + G * 8 + e) / 8) = (G * 2 + H) * 3 + J := by
    rw [show (J * 160 + H * 80 + G * 8 + e) / 8 = J * 20 + H * 10 + G by omega]
    unfold place
    omega
  have e2 : row ((g * 2 + h) % 2) ((g * 2 + h) / 2) j = j * 160 + h * 80 + g * 8 := by
    unfold row
    omega
  rw [e1, e2]
  constructor
  · intro hh'
    have a1 : J = j := by omega
    have a2 : H = h := by omega
    have a3 : G = g := by omega
    subst a1 a2 a3
    omega
  · intro hh'
    have a1 : J = j := by omega
    subst a1
    have a2 : H = h := by omega
    subst a2
    have a3 : G = g := by omega
    subst a3
    omega

theorem place_lt (r : ℕ) (hr : r < 480) : place (r / 8) < 60 := by
  unfold place
  omega

theorem ordRow_iff (t j : ℕ) (ht : t < 20) (hj : j < 3) (y : S480x128.Idx) :
    ordRow y = t * 3 + j ↔ ∀ a, (![row (t % 2) (t / 2) j, 0] : Fin 2 → ℕ) a ≤ (y a).val ∧ (y a).val < (![row (t % 2) (t / 2) j, 0] : Fin 2 → ℕ) a + S8x128.size a := by
  have h0 : (y 0).val < 480 := (y 0).isLt
  have h1 : (y 1).val < 128 := (y 1).isLt
  rw [Fin.forall_fin_two]
  show place ((y 0).val / 8) = t * 3 + j ↔ (row (t % 2) (t / 2) j ≤ (y 0).val ∧ (y 0).val < row (t % 2) (t / 2) j + 8) ∧ (0 ≤ (y 1).val ∧ (y 1).val < 0 + 128)
  rw [place_iff _ t j h0 ht hj]
  omega

theorem ordTile_iff (s t j q : ℕ) (hs : s < 2) (ht : t < 20) (hj : j < 3) (hq : q < 4) (y : S480x1024.Idx) :
    ordTile y = (s * 60 + (t * 3 + j)) * 4 + q ↔ ∀ a, (![row (t % 2) (t / 2) j, tcol s q] : Fin 2 → ℕ) a ≤ (y a).val ∧ (y a).val < (![row (t % 2) (t / 2) j, tcol s q] : Fin 2 → ℕ) a + S8x128.size a := by
  have h0 : (y 0).val < 480 := (y 0).isLt
  have h1 : (y 1).val < 1024 := (y 1).isLt
  rw [Fin.forall_fin_two]
  show ((y 1).val / 512 * 60 + place ((y 0).val / 8)) * 4 + (y 1).val % 512 / 128 = _ ↔ (row (t % 2) (t / 2) j ≤ (y 0).val ∧ (y 0).val < row (t % 2) (t / 2) j + 8) ∧ (tcol s q ≤ (y 1).val ∧ (y 1).val < tcol s q + 128)
  rw [← place_iff _ t j h0 ht hj]
  have := place_lt _ h0
  generalize place ((y 0).val / 8) = P at *
  unfold tcol
  omega

theorem place_row (t j : ℕ) (ht : t < 20) (hj : j < 3) : ∃ R, R < 60 ∧ row (t % 2) (t / 2) j = R * 8 ∧ grp R = t ∧ R / 20 = j := by
  obtain ⟨g, h, rfl, hg, hh⟩ : ∃ g h, t = g * 2 + h ∧ g < 10 ∧ h < 2 := ⟨t / 2, t % 2, by omega, by omega, by omega⟩
  refine ⟨j * 20 + h * 10 + g, by omega, ?_, ?_, by omega⟩
  · unfold row; omega
  · unfold grp
    rw [show (j * 20 + h * 10 + g) % 10 = g by omega, show (j * 20 + h * 10 + g) % 20 = h * 10 + g by omega]
    omega

/-! ## The pieces -/

section pieces

variable (i : grid0.Coords)
  (arg1 : Memref sig .tc .vmem S480x5120 .fp8e4m3) (arg2 : Memref sig .tc .vmem S5120x1024 .fp8e4m3)
  (arg3 : Memref sig .tc .vmem S1x1024 .f32) (arg4 : Memref sig .tc .vmem S80x1024 .i32)
  (arg5 : Memref sig .tc .vmem S160x8 .f32) (arg6 : Memref sig .tc .vmem S480x256 .i32)
  (arg7 : Memref sig .tc .vmem S480x1024 .f32) (arg8 : Memref sig .tc .vmem S480x1 .f32)
  (arg9 : Memref sig .tc .vmem S480x128 .f32) (arg10 : Memref sig .tc .vmem S480x512 .f32)
  (arg11 : Memref sig .tc .vmem S480x128 .f32) (arg12 : Memref sig .tc .vmem S480x128 .f32)
  (arg13 : Memref sig .tc .vmem S480x128 .f32)
  (X1 : Vec F S480x5120 .fp8e4m3) (X2 : Vec F S5120x1024 .fp8e4m3) (X3 : Vec F S1x1024 .f32)
  (X4 : Vec F S80x1024 .i32) (X5 : Vec F S160x8 .f32) (X6 : Vec F S480x256 .i32)
  (c : Dev nD) (E : Set ℕ)

/-- A parameter column is read. -/
theorem run_par {α : Type} {Q : α → sProp 𝕄} (t p : ℕ) (hp : p + 1 ≤ 8) (k : FVec F S8x128 .f32 → Prog (TpuEff nD τ sig (Elt F) Λ₀ .tc) α) :
    (owns (c : Thread nD τ) arg5 fullShare X5 : sProp 𝕄)
      ⊢ iprop((owns (c : Thread nD τ) arg5 fullShare X5 -∗ wp frame (wpE (defs₀ (F := F)) Variants.none c none) E (k (par X5 t p hp)) Q)
        -∗ wp frame (wpE (defs₀ (F := F)) Variants.none c none) E (loadPar arg5 (t % 2) (t / 2) p hp >>= k) Q) := by
  unfold loadPar
  iintro H Hk
  iapply (run_load c E) $$ H
  iintro H
  iapply Hk $$ H

/-- The buffers a block reads. -/
def reads (s : ℕ) : sProp 𝕄 :=
  iprop(owns (c : Thread nD τ) arg3 fullShare X3 ∗ owns (c : Thread nD τ) arg4 fullShare X4
    ∗ owns (c : Thread nD τ) arg10 fullShare (prods X1 X2 s))

/-- One block of logits is computed and stored. -/
theorem run_block {α : Type} {Q : α → sProp 𝕄} (s t j q : ℕ) (hs : s < 2) (ht : t < 20) (hj : j < 3) (hq : q < 4) (Y : Vec F S480x1024 .f32)
    (k : FVec F S8x128 .f32 → Prog (TpuEff nD τ sig (Elt F) Λ₀ .tc) α) :
    (iprop(reads arg3 arg4 arg10 X1 X2 X3 X4 c s
        ∗ owns (c : Thread nD τ) arg7 fullShare (upto ordTile ((s * 60 + (t * 3 + j)) * 4 + q) (tile X1 X2 X3 X4 X5) Y)) : sProp 𝕄)
      ⊢ iprop((iprop(reads arg3 arg4 arg10 X1 X2 X3 X4 c s
          ∗ owns (c : Thread nD τ) arg7 fullShare (upto ordTile ((s * 60 + (t * 3 + j)) * 4 + (q + 1)) (tile X1 X2 X3 X4 X5) Y))
          -∗ wp frame (wpE (defs₀ (F := F)) Variants.none c none) E (k (logits X1 X2 X3 X4 X5 s t j q)) Q)
        -∗ wp frame (wpE (defs₀ (F := F)) Variants.none c none) E
          (block arg3 arg4 arg7 arg10 s (t % 2) (t / 2) j q (par X5 t 0 (by decide)) (par X5 t 1 (by decide)) (par X5 t 2 (by decide)) (par X5 t 3 (by decide)) (par X5 t (4 + j % 3) (by omega)) >>= k) Q) := by
  unfold block reads
  iintro ⟨⟨H3, H4, H10⟩, H7⟩ Hk
  iapply (run_load c E) $$ H4
  iintro H4
  iapply (run_load c E) $$ H10
  iintro H10
  iapply (run_load c E) $$ H3
  iintro H3
  iapply (run_load c E) $$ H7
  iintro H7
  iapply (run_store c E) $$ H7
  iintro H7
  obtain ⟨R, hR, e1, e2, e3⟩ := place_row t j ht hj
  have hw : window (s := S480x1024) (tile X1 X2 X3 X4 X5) ![row (t % 2) (t / 2) j, tcol s q] S8x128.size (inb2 (row_le (t % 2) (t / 2) j) (tcol_le s q))
      = logits X1 X2 X3 X4 X5 s t j q := by
    unfold tile
    refine (window_blocks _ R (s * 4 + q) _ _ e1 (by unfold tcol; omega) _).trans ?_
    rw [e2, e3, show (s * 4 + q) / 4 = s by omega, show (s * 4 + q) % 4 = q by omega]
  have hput := put_upto ordTile ((s * 60 + (t * 3 + j)) * 4 + q) (tile X1 X2 X3 X4 X5) Y ![row (t % 2) (t / 2) j, tcol s q] S8x128.size
    (inb2 (row_le (t % 2) (t / 2) j) (tcol_le s q)) (logits X1 X2 X3 X4 X5 s t j q) hw.symm (ordTile_iff s t j q hs ht hj hq)
  iapply Hk
  isplitl [H3 H4 H10]
  · isplitl [H3]; · iexact H3
    isplitl [H4]; · iexact H4
    iexact H10
  · have e : owns (c : Thread nD τ) arg7 fullShare (upto ordTile ((s * 60 + (t * 3 + j)) * 4 + (q + 1)) (tile X1 X2 X3 X4 X5) Y)
        = (owns (c : Thread nD τ) arg7 fullShare (put (s := S480x1024) (upto ordTile ((s * 60 + (t * 3 + j)) * 4 + q) (tile X1 X2 X3 X4 X5) Y) ![row (t % 2) (t / 2) j, tcol s q] S8x128.size (logits X1 X2 X3 X4 X5 s t j q)) : sProp 𝕄) := by
      rw [hput]; rfl
    rw [e]
    iexact H7

/-- The inputs and the buffers a half tile changes: the tile and the three running arrays, each with its first `n`
blocks at the new contents, over what they held when the half tile began. -/
def live (s n : ℕ) (Y : Vec F S480x1024 .f32) (M L C : Vec F S480x128 .f32) : sProp 𝕄 :=
  iprop(owns (c : Thread nD τ) arg5 fullShare X5 ∗ owns (c : Thread nD τ) arg6 fullShare X6
    ∗ reads arg3 arg4 arg10 X1 X2 X3 X4 c s
    ∗ owns (c : Thread nD τ) arg7 fullShare (upto ordTile ((s * 60 + n) * 4) (tile X1 X2 X3 X4 X5) Y)
    ∗ owns (c : Thread nD τ) arg11 fullShare (upto ordRow n (stepM X1 X2 X3 X4 X5 s M) M)
    ∗ owns (c : Thread nD τ) arg12 fullShare (upto ordRow n (stepL X1 X2 X3 X4 X5 s M L) L)
    ∗ owns (c : Thread nD τ) arg13 fullShare (upto ordRow n (stepC i X1 X2 X3 X4 X5 X6 s C) C))

/-- Windows at equal offsets are equal. -/
theorem window_at {α : Type} {s : Shape} (X : s.Idx → α) {off off' size : Fin s.rank → ℕ} (inb : ∀ a, off a + size a ≤ s.size a)
    (inb' : ∀ a, off' a + size a ≤ s.size a) (h : off = off') : window X off size inb = window X off' size inb' := by
  subst h; rfl

/-- A running array's next block is put. -/
theorem owns_row (m : Memref sig .tc .vmem S480x128 .f32) (t j : ℕ) (ht : t < 20) (hj : j < 3) (G X : Vec F S480x128 .f32)
    (w : (⟨2, S8x128.size⟩ : Shape).Idx → Elt F .f32)
    (hw : w = window (s := S480x128) G ![row (t % 2) (t / 2) j, 0] S8x128.size (inb2 (row_le (t % 2) (t / 2) j) (by decide))) :
    (owns (c : Thread nD τ) m fullShare (put (s := S480x128) (upto ordRow (t * 3 + j) G X) ![row (t % 2) (t / 2) j, 0] S8x128.size w) : sProp 𝕄)
      ⊢ owns (c : Thread nD τ) m fullShare (upto ordRow (t * 3 + (j + 1)) G X) := by
  rw [put_upto (s := S480x128) ordRow (t * 3 + j) G X ![row (t % 2) (t / 2) j, 0] S8x128.size (inb2 (row_le (t % 2) (t / 2) j) (by decide)) w hw (ordRow_iff t j ht hj)]
  exact .rfl

/-- A running array's next block still holds what it held. -/
theorem window_row (t j : ℕ) (ht : t < 20) (hj : j < 3) (G X : Vec F S480x128 .f32) :
    window (s := S480x128) (upto ordRow (t * 3 + j) G X) ![row (t % 2) (t / 2) j, 0] S8x128.size (inb2 (row_le (t % 2) (t / 2) j) (by decide))
      = window (s := S480x128) X ![row (t % 2) (t / 2) j, 0] S8x128.size (inb2 (row_le (t % 2) (t / 2) j) (by decide)) :=
  window_upto _ _ _ _ _ _ _ fun y h => (ordRow_iff t j ht hj y).mpr h

set_option maxHeartbeats 0 in
/-- One piece handles its block of eight rows. -/
theorem run_piece {α : Type} {Q : α → sProp 𝕄} (s t j : ℕ) (hs : s < 2) (ht : t < 20) (hj : j < 3) (Y : Vec F S480x1024 .f32) (M L C : Vec F S480x128 .f32)
    (k : PUnit → Prog (TpuEff nD τ sig (Elt F) Λ₀ .tc) α) :
    (live i arg3 arg4 arg5 arg6 arg7 arg10 arg11 arg12 arg13 X1 X2 X3 X4 X5 X6 c s (t * 3 + j) Y M L C : sProp 𝕄)
      ⊢ iprop((live i arg3 arg4 arg5 arg6 arg7 arg10 arg11 arg12 arg13 X1 X2 X3 X4 X5 X6 c s (t * 3 + (j + 1)) Y M L C
          -∗ wp frame (wpE (defs₀ (F := F)) Variants.none c none) E (k ⟨⟩) Q)
        -∗ wp frame (wpE (defs₀ (F := F)) Variants.none c none) E
          (piece i arg3 arg4 arg5 arg6 arg7 arg10 arg11 arg12 arg13 s (t % 2) (t / 2) (par X5 t 0 (by decide)) (par X5 t 1 (by decide)) (par X5 t 2 (by decide)) (par X5 t 3 (by decide)) j >>= k) Q) := by
  obtain ⟨R, hR, e1, e2, e3⟩ := place_row t j ht hj
  have hrows : ∀ X : Vec F S480x128 .f32, rows8 X R = window (s := S480x128) X ![row (t % 2) (t / 2) j, 0] S8x128.size (inb2 (row_le (t % 2) (t / 2) j) (by decide)) := by
    intro X
    exact window_at X _ _ (by rw [e1, Nat.mod_eq_of_lt hR])
  have hc0 : cand8 X6 R 0 = shapeCast S8x128 (window (s := S480x256) X6 ![row (t % 2) (t / 2) j, 0] S8x128.size (inb2 (row_le (t % 2) (t / 2) j) (by decide))) shapeCasts_S8x128_S8x128 :=
    congrArg (fun v => shapeCast S8x128 v shapeCasts_S8x128_S8x128) (window_at X6 _ _ (by rw [e1, Nat.mod_eq_of_lt hR]))
  have hc1 : cand8 X6 R 1 = shapeCast S8x128 (window (s := S480x256) X6 ![row (t % 2) (t / 2) j, 128] S8x128.size (inb2 (row_le (t % 2) (t / 2) j) (by decide))) shapeCasts_S8x128_S8x128 :=
    congrArg (fun v => shapeCast S8x128 v shapeCasts_S8x128_S8x128) (window_at X6 _ _ (by rw [e1, Nat.mod_eq_of_lt hR]))
  have en : (s * 60 + (t * 3 + (j + 1))) * 4 = (s * 60 + (t * 3 + j)) * 4 + (3 + 1) := by omega
  rw [wp_bind]
  unfold piece live
  rw [en]
  iintro ⟨H5, H6, HR, H7, H11, H12, H13⟩ Hk
  iapply (run_par arg5 X5 c E t (4 + j % 3)) $$ H5
  iintro H5
  iapply (run_load c E) $$ H6
  iintro H6
  iapply (run_load c E) $$ H6
  iintro H6
  iapply (run_load c E) $$ H13
  iintro H13
  iapply (run_block arg3 arg4 arg7 arg10 X1 X2 X3 X4 X5 c E s t j 0 hs ht hj (by decide) Y) $$ [HR H7]
  · isplitl [HR]; · iexact HR
    iexact H7
  iintro ⟨HR, H7⟩
  iapply (run_block arg3 arg4 arg7 arg10 X1 X2 X3 X4 X5 c E s t j 1 hs ht hj (by decide) Y) $$ [HR H7]
  · isplitl [HR]; · iexact HR
    iexact H7
  iintro ⟨HR, H7⟩
  iapply (run_block arg3 arg4 arg7 arg10 X1 X2 X3 X4 X5 c E s t j 2 hs ht hj (by decide) Y) $$ [HR H7]
  · isplitl [HR]; · iexact HR
    iexact H7
  iintro ⟨HR, H7⟩
  iapply (run_block arg3 arg4 arg7 arg10 X1 X2 X3 X4 X5 c E s t j 3 hs ht hj (by decide) Y) $$ [HR H7]
  · isplitl [HR]; · iexact HR
    iexact H7
  iintro ⟨HR, H7⟩
  iapply (run_load c E) $$ H13
  iintro H13
  iapply (run_store c E) $$ H13
  iintro H13
  iapply (run_load c E) $$ H11
  iintro H11
  iapply (run_load c E) $$ H12
  iintro H12
  iapply (run_load c E) $$ H11
  iintro H11
  iapply (run_store c E) $$ H11
  iintro H11
  iapply (run_load c E) $$ H12
  iintro H12
  iapply (run_store c E) $$ H12
  iintro H12
  iapply (le_wp_ret _ _ _ _ _)
  iapply Hk
  isplitl [H5]; · iexact H5
  isplitl [H6]; · iexact H6
  isplitl [HR]; · iexact HR
  isplitl [H7]; · iexact H7
  isplitl [H11]
  · iapply (owns_row c arg11 t j ht hj _ _ _ ?_) $$ H11
    rw [window_row t j ht hj]
    refine Eq.symm ((window_blocks _ R 0 _ _ e1 rfl _).trans ?_)
    rw [e2, e3, hrows]
  isplitl [H12]
  · iapply (owns_row c arg12 t j ht hj _ _ _ ?_) $$ H12
    rw [window_row t j ht hj, window_row t j ht hj]
    refine Eq.symm ((window_blocks _ R 0 _ _ e1 rfl _).trans ?_)
    rw [e2, e3, hrows, hrows]
  · iapply (owns_row c arg13 t j ht hj _ _ _ ?_) $$ H13
    rw [window_row t j ht hj]
    refine Eq.symm ((window_blocks _ R 0 _ _ e1 rfl _).trans ?_)
    rw [e2, e3, hrows, hc0, hc1]

/-- One group handles its three pieces. -/
theorem run_group {α : Type} {Q : α → sProp 𝕄} (s t : ℕ) (hs : s < 2) (ht : t < 20) (Y : Vec F S480x1024 .f32) (M L C : Vec F S480x128 .f32)
    (k : PUnit → Prog (TpuEff nD τ sig (Elt F) Λ₀ .tc) α) :
    (live i arg3 arg4 arg5 arg6 arg7 arg10 arg11 arg12 arg13 X1 X2 X3 X4 X5 X6 c s (t * 3) Y M L C : sProp 𝕄)
      ⊢ iprop((live i arg3 arg4 arg5 arg6 arg7 arg10 arg11 arg12 arg13 X1 X2 X3 X4 X5 X6 c s (t * 3 + 3) Y M L C
          -∗ wp frame (wpE (defs₀ (F := F)) Variants.none c none) E (k ⟨⟩) Q)
        -∗ wp frame (wpE (defs₀ (F := F)) Variants.none c none) E
          (group i arg3 arg4 arg5 arg6 arg7 arg10 arg11 arg12 arg13 s t >>= k) Q) := by
  have h5 : (live i arg3 arg4 arg5 arg6 arg7 arg10 arg11 arg12 arg13 X1 X2 X3 X4 X5 X6 c s (t * 3) Y M L C : sProp 𝕄)
      ⊢ iprop(owns (c : Thread nD τ) arg5 fullShare X5 ∗ (owns (c : Thread nD τ) arg5 fullShare X5 -∗ live i arg3 arg4 arg5 arg6 arg7 arg10 arg11 arg12 arg13 X1 X2 X3 X4 X5 X6 c s (t * 3) Y M L C)) := by
    unfold live
    iintro ⟨H5, HR⟩
    isplitl [H5]; · iexact H5
    iintro H5
    isplitl [H5]; · iexact H5
    iexact HR
  rw [wp_bind]
  unfold group
  iintro H Hk
  ihave H := h5 $$ H
  icases H with ⟨H5, HL⟩
  iapply (run_par arg5 X5 c E t 0) $$ H5
  iintro H5
  iapply (run_par arg5 X5 c E t 1) $$ H5
  iintro H5
  iapply (run_par arg5 X5 c E t 2) $$ H5
  iintro H5
  iapply (run_par arg5 X5 c E t 3) $$ H5
  iintro H5
  ihave H := HL $$ H5
  iapply (run_piece i arg3 arg4 arg5 arg6 arg7 arg10 arg11 arg12 arg13 X1 X2 X3 X4 X5 X6 c E s t 0 hs ht (by decide) Y M L C) $$ H
  iintro H
  iapply (run_piece i arg3 arg4 arg5 arg6 arg7 arg10 arg11 arg12 arg13 X1 X2 X3 X4 X5 X6 c E s t 1 hs ht (by decide) Y M L C) $$ H
  iintro H
  rw [← bind_pure (piece i arg3 arg4 arg5 arg6 arg7 arg10 arg11 arg12 arg13 s (t % 2) (t / 2) (par X5 t 0 (by decide)) (par X5 t 1 (by decide)) (par X5 t 2 (by decide)) (par X5 t 3 (by decide)) 2)]
  iapply (run_piece i arg3 arg4 arg5 arg6 arg7 arg10 arg11 arg12 arg13 X1 X2 X3 X4 X5 X6 c E s t 2 hs ht (by decide) Y M L C) $$ H
  iintro H
  iapply (le_wp_ret _ _ _ _ _)
  iapply Hk $$ H

/-- The groups from `t` on, one after another. -/
theorem run_along {α : Type} {Q : α → sProp 𝕄} (s : ℕ) (hs : s < 2) (Y : Vec F S480x1024 .f32) (M L C : Vec F S480x128 .f32)
    (k : PUnit → Prog (TpuEff nD τ sig (Elt F) Λ₀ .tc) α) (n : ℕ) : ∀ t, t + n ≤ 20 →
    ((live i arg3 arg4 arg5 arg6 arg7 arg10 arg11 arg12 arg13 X1 X2 X3 X4 X5 X6 c s (t * 3) Y M L C : sProp 𝕄)
      ⊢ iprop((live i arg3 arg4 arg5 arg6 arg7 arg10 arg11 arg12 arg13 X1 X2 X3 X4 X5 X6 c s ((t + n) * 3) Y M L C
          -∗ wp frame (wpE (defs₀ (F := F)) Variants.none c none) E (k ⟨⟩) Q)
        -∗ wp frame (wpE (defs₀ (F := F)) Variants.none c none) E
          (along (group i arg3 arg4 arg5 arg6 arg7 arg10 arg11 arg12 arg13 s) (List.range' t n) >>= k) Q)) := by
  induction n with
  | zero =>
    intro t _
    iintro H Hk
    iapply Hk $$ H
  | succ n ih =>
    intro t h
    have e : (t + (n + 1)) * 3 = (t + 1 + n) * 3 := by omega
    rw [List.range'_succ, e]
    unfold along
    rw [wp_bind, wp_bind, ← wp_bind]
    iintro H Hk
    iapply (run_group i arg3 arg4 arg5 arg6 arg7 arg10 arg11 arg12 arg13 X1 X2 X3 X4 X5 X6 c E s t hs (by omega) Y M L C) $$ H
    iintro H
    have e2 : t * 3 + 3 = (t + 1) * 3 := by omega
    rw [e2]
    rw [← wp_bind]
    iapply (ih (t + 1) (by omega)) $$ H
    iexact Hk

/-- Everything the body touches but the two closing results. -/
def held (n : ℕ) (Y : Vec F S480x1024 .f32) (P : Vec F S480x512 .f32) (M L C : Vec F S480x128 .f32) : sProp 𝕄 :=
  iprop(owns (c : Thread nD τ) arg1 fullShare X1 ∗ owns (c : Thread nD τ) arg2 fullShare X2
    ∗ owns (c : Thread nD τ) arg3 fullShare X3 ∗ owns (c : Thread nD τ) arg4 fullShare X4
    ∗ owns (c : Thread nD τ) arg5 fullShare X5 ∗ owns (c : Thread nD τ) arg6 fullShare X6
    ∗ owns (c : Thread nD τ) arg7 fullShare (upto ordTile n (tile X1 X2 X3 X4 X5) Y)
    ∗ owns (c : Thread nD τ) arg10 fullShare P
    ∗ owns (c : Thread nD τ) arg11 fullShare M ∗ owns (c : Thread nD τ) arg12 fullShare L ∗ owns (c : Thread nD τ) arg13 fullShare C)

/-- A store of the whole array leaves the payload. -/
theorem put_all {α : Type} {a b : ℕ} (X : (⟨2, ![a, b]⟩ : Shape).Idx → α) (w : (⟨2, ![a, b]⟩ : Shape).Idx → α) :
    put (s := ⟨2, ![a, b]⟩) X ![0, 0] (⟨2, ![a, b]⟩ : Shape).size w = w := by
  funext y
  have h : ∀ d, (![0, 0] : Fin 2 → ℕ) d ≤ (y d).val ∧ (y d).val < (![0, 0] : Fin 2 → ℕ) d + (⟨2, ![a, b]⟩ : Shape).size d := fun d => by
    have := (y d).isLt
    match d with
    | 0 => exact ⟨Nat.zero_le _, by rw [show (![0, 0] : Fin 2 → ℕ) 0 = 0 from rfl, Nat.zero_add]; exact this⟩
    | 1 => exact ⟨Nat.zero_le _, by rw [show (![0, 0] : Fin 2 → ℕ) 1 = 0 from rfl, Nat.zero_add]; exact this⟩
  unfold put
  rw [dif_pos h]
  refine congrArg w (funext fun d => Fin.ext ?_)
  match d with
  | 0 => exact Nat.sub_zero _
  | 1 => exact Nat.sub_zero _

/-- A load of the whole array reads it. -/
theorem window_all {α : Type} {a b : ℕ} (X : (⟨2, ![a, b]⟩ : Shape).Idx → α) (inb) :
    window (s := ⟨2, ![a, b]⟩) X ![0, 0] (⟨2, ![a, b]⟩ : Shape).size inb = X := by
  funext y
  refine congrArg X (funext fun d => Fin.ext ?_)
  match d with
  | 0 => exact (show 0 + 1 * (y 0).val = (y 0).val by omega)
  | 1 => exact (show 0 + 1 * (y 1).val = (y 1).val by omega)

/-- One half tile: its products, then its twenty groups. -/
theorem run_half {α : Type} {Q : α → sProp 𝕄} (s : ℕ) (hs : s < 2) (Y : Vec F S480x1024 .f32) (P : Vec F S480x512 .f32) (M L C : Vec F S480x128 .f32)
    (k : PUnit → Prog (TpuEff nD τ sig (Elt F) Λ₀ .tc) α) :
    (held arg1 arg2 arg3 arg4 arg5 arg6 arg7 arg10 arg11 arg12 arg13 X1 X2 X3 X4 X5 X6 c (s * 240) Y P M L C : sProp 𝕄)
      ⊢ iprop((held arg1 arg2 arg3 arg4 arg5 arg6 arg7 arg10 arg11 arg12 arg13 X1 X2 X3 X4 X5 X6 c ((s + 1) * 240) Y (prods X1 X2 s)
            (stepM X1 X2 X3 X4 X5 s M) (stepL X1 X2 X3 X4 X5 s M L) (stepC i X1 X2 X3 X4 X5 X6 s C)
          -∗ wp frame (wpE (defs₀ (F := F)) Variants.none c none) E (k ⟨⟩) Q)
        -∗ wp frame (wpE (defs₀ (F := F)) Variants.none c none) E
          (produce arg1 arg2 arg10 s >>= fun _ => along (group i arg3 arg4 arg5 arg6 arg7 arg10 arg11 arg12 arg13 s) (List.range' 0 20) >>= k) Q) := by
  have hord : ∀ y : S480x128.Idx, ordRow y < (0 + 20) * 3 := fun y => place_lt _ (y 0).isLt
  unfold held produce
  iintro ⟨H1, H2, H3, H4, H5, H6, H7, H10, H11, H12, H13⟩ Hk
  iapply (run_load c E) $$ H1
  iintro H1
  iapply (run_load c E) $$ H2
  iintro H2
  iapply (run_load c E) $$ H10
  iintro H10
  iapply (run_store c E) $$ H10
  iintro H10
  iapply (run_along i arg3 arg4 arg5 arg6 arg7 arg10 arg11 arg12 arg13 X1 X2 X3 X4 X5 X6 c E s hs Y M L C k 20 0 (by decide)) $$ [H3 H4 H5 H6 H7 H10 H11 H12 H13]
  · unfold live reads
    rw [upto_zero, upto_zero, upto_zero, show (s * 60 + 0 * 3) * 4 = s * 240 by omega]
    isplitl [H5]; · iexact H5
    isplitl [H6]; · iexact H6
    isplitl [H3 H4 H10]
    · isplitl [H3]; · iexact H3
      isplitl [H4]; · iexact H4
      rw [← put_all P (prods X1 X2 s)]
      iexact H10
    isplitl [H7]; · iexact H7
    isplitl [H11]; · iexact H11
    isplitl [H12]; · iexact H12
    iexact H13
  unfold live reads
  rw [upto_all _ _ _ _ hord, upto_all _ _ _ _ hord, upto_all _ _ _ _ hord, show (s * 60 + (0 + 20) * 3) * 4 = (s + 1) * 240 by omega]
  iintro ⟨H5, H6, ⟨H3, H4, H10⟩, H7, H11, H12, H13⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  iexact H13

end pieces

/-! ## The start, the close, the whole body -/

/-- The grid point is the first. -/
abbrev atStart (i : grid0.Coords) : Prop :=
  Scalar.cmpi .ne (Scalar.extui (Scalar.cmpi .eq (BitVec.ofNat 32 (i 0).val) 0#32) : BitVec 32) 0#32 = 1#1
/-- The grid point is the last. -/
abbrev atEnd (i : grid0.Coords) : Prop := k0_cond2 i = 1#1

/-- A running array, set to one value at the first point. -/
def fresh (i : grid0.Coords) (b : BitVec 32) (X : Vec F S480x128 .f32) : Vec F S480x128 .f32 :=
  if atStart i then shapeCast S480x128 (broadcast S480x128 (Scalar.ofBits .f32 b)) shapeCasts_S480x128_S480x128 else X

section whole

variable (i : grid0.Coords) (X1 : Vec F S480x5120 .fp8e4m3) (X2 : Vec F S5120x1024 .fp8e4m3) (X3 : Vec F S1x1024 .f32)
  (X4 : Vec F S80x1024 .i32) (X5 : Vec F S160x8 .f32) (X6 : Vec F S480x256 .i32)

/-- The running maximum after a point. -/
def nextM (M : Vec F S480x128 .f32) : Vec F S480x128 .f32 :=
  stepM X1 X2 X3 X4 X5 1 (stepM X1 X2 X3 X4 X5 0 (fresh i 0xFF61B1E6#32 M))
/-- The running sum after a point. -/
def nextL (M L : Vec F S480x128 .f32) : Vec F S480x128 .f32 :=
  stepL X1 X2 X3 X4 X5 1 (stepM X1 X2 X3 X4 X5 0 (fresh i 0xFF61B1E6#32 M))
    (stepL X1 X2 X3 X4 X5 0 (fresh i 0xFF61B1E6#32 M) (fresh i 0x00000000#32 L))
/-- The candidates' logits after a point. -/
def nextC (C : Vec F S480x128 .f32) : Vec F S480x128 .f32 :=
  stepC i X1 X2 X3 X4 X5 X6 1 (stepC i X1 X2 X3 X4 X5 X6 0 (fresh i 0x00000000#32 C))
/-- The first closing result, from the running arrays. -/
def closeA (M L : Vec F S480x128 .f32) (A : Vec F S480x1 .f32) : Vec F S480x1 .f32 := if atEnd i then logSum M L else A
/-- The second closing result, from the running arrays. -/
def closeB (M L C B : Vec F S480x128 .f32) : Vec F S480x128 .f32 :=
  if atEnd i then subf C (broadcastTo S480x128 (logSum M L) broadcasts_S480x1_S480x128) else B

variable (arg1 : Memref sig .tc .vmem S480x5120 .fp8e4m3) (arg2 : Memref sig .tc .vmem S5120x1024 .fp8e4m3)
  (arg3 : Memref sig .tc .vmem S1x1024 .f32) (arg4 : Memref sig .tc .vmem S80x1024 .i32)
  (arg5 : Memref sig .tc .vmem S160x8 .f32) (arg6 : Memref sig .tc .vmem S480x256 .i32)
  (arg7 : Memref sig .tc .vmem S480x1024 .f32) (arg8 : Memref sig .tc .vmem S480x1 .f32)
  (arg9 : Memref sig .tc .vmem S480x128 .f32) (arg10 : Memref sig .tc .vmem S480x512 .f32)
  (arg11 : Memref sig .tc .vmem S480x128 .f32) (arg12 : Memref sig .tc .vmem S480x128 .f32)
  (arg13 : Memref sig .tc .vmem S480x128 .f32) (c : Dev nD) (E : Set ℕ)

/-- A store of one whole array. -/
theorem owns_all {a b : ℕ} {e : EltTy} {m : Memref sig .tc .vmem ⟨2, ![a, b]⟩ e} (X w : (⟨2, ![a, b]⟩ : Shape).Idx → Elt F e) :
    (owns (c : Thread nD τ) m fullShare (put (s := ⟨2, ![a, b]⟩) X ![0, 0] (⟨2, ![a, b]⟩ : Shape).size w) : sProp 𝕄)
      ⊢ owns (c : Thread nD τ) m fullShare w := by
  rw [put_all X w]

/-- The start: at the first point the running arrays are set. -/
theorem run_start {α : Type} {Q : α → sProp 𝕄} (M L C : Vec F S480x128 .f32) (k : PUnit → Prog (TpuEff nD τ sig (Elt F) Λ₀ .tc) α) :
    (iprop(owns (c : Thread nD τ) arg11 fullShare M ∗ owns (c : Thread nD τ) arg12 fullShare L ∗ owns (c : Thread nD τ) arg13 fullShare C) : sProp 𝕄)
      ⊢ iprop((iprop(owns (c : Thread nD τ) arg11 fullShare (fresh i 0xFF61B1E6#32 M) ∗ owns (c : Thread nD τ) arg12 fullShare (fresh i 0x00000000#32 L)
            ∗ owns (c : Thread nD τ) arg13 fullShare (fresh i 0x00000000#32 C))
          -∗ wp frame (wpE (defs₀ (F := F)) Variants.none c none) E (k ⟨⟩) Q)
        -∗ wp frame (wpE (defs₀ (F := F)) Variants.none c none) E (start i arg11 arg12 arg13 >>= k) Q) := by
  unfold start fresh
  by_cases h : atStart i
  · rw [dif_pos h, if_pos h, if_pos h, if_pos h]
    iintro ⟨H11, H12, H13⟩ Hk
    iapply (run_load c E) $$ H11
    iintro H11
    iapply (run_store c E) $$ H11
    iintro H11
    iapply (run_load c E) $$ H12
    iintro H12
    iapply (run_store c E) $$ H12
    iintro H12
    iapply (run_load c E) $$ H13
    iintro H13
    iapply (run_store c E) $$ H13
    iintro H13
    iapply Hk
    isplitl [H11]; · iapply (owns_all c _ _) $$ H11
    isplitl [H12]; · iapply (owns_all c _ _) $$ H12
    iapply (owns_all c _ _) $$ H13
  · rw [dif_neg h, if_neg h, if_neg h, if_neg h]
    iintro H Hk
    iapply Hk $$ H

/-- The close: at the last point the two closing results are stored. -/
theorem run_finish {Q : PUnit → sProp 𝕄} (M L C B : Vec F S480x128 .f32) (A : Vec F S480x1 .f32) :
    (iprop(owns (c : Thread nD τ) arg8 fullShare A ∗ owns (c : Thread nD τ) arg9 fullShare B
        ∗ owns (c : Thread nD τ) arg11 fullShare M ∗ owns (c : Thread nD τ) arg12 fullShare L ∗ owns (c : Thread nD τ) arg13 fullShare C) : sProp 𝕄)
      ⊢ iprop((iprop(owns (c : Thread nD τ) arg8 fullShare (closeA i M L A) ∗ owns (c : Thread nD τ) arg9 fullShare (closeB i M L C B)
            ∗ owns (c : Thread nD τ) arg11 fullShare M ∗ owns (c : Thread nD τ) arg12 fullShare L ∗ owns (c : Thread nD τ) arg13 fullShare C)
          -∗ Q ⟨⟩)
        -∗ wp frame (wpE (defs₀ (F := F)) Variants.none c none) E (finish i arg8 arg9 arg11 arg12 arg13) Q) := by
  unfold finish closeA closeB
  by_cases h : atEnd i
  · rw [dif_pos h, if_pos h, if_pos h]
    iintro ⟨H8, H9, H11, H12, H13⟩ Hk
    iapply (run_load c E) $$ H11
    iintro H11
    iapply (run_load c E) $$ H12
    iintro H12
    iapply (run_load c E) $$ H8
    iintro H8
    iapply (run_store c E) $$ H8
    iintro H8
    iapply (run_load c E) $$ H13
    iintro H13
    iapply (run_load c E) $$ H9
    iintro H9
    iapply (run_store c E) $$ H9
    iintro H9
    iapply (le_wp_ret _ _ _ _ _)
    iapply Hk
    rw [window_all M, window_all L, window_all C]
    isplitl [H8]; · iapply (owns_all c _ _) $$ H8
    isplitl [H9]; · iapply (owns_all c _ _) $$ H9
    isplitl [H11]; · iexact H11
    isplitl [H12]; · iexact H12
    iexact H13
  · rw [dif_neg h, if_neg h, if_neg h]
    iintro H Hk
    iapply (le_wp_ret _ _ _ _ _)
    iapply Hk $$ H

/-- The body, from any contents of the buffers it writes. -/
theorem run_body {Q : PUnit → sProp 𝕄} (Y : Vec F S480x1024 .f32) (A : Vec F S480x1 .f32) (P : Vec F S480x512 .f32) (M L C B : Vec F S480x128 .f32) :
    (iprop(owns (c : Thread nD τ) arg1 fullShare X1 ∗ owns (c : Thread nD τ) arg2 fullShare X2
        ∗ owns (c : Thread nD τ) arg3 fullShare X3 ∗ owns (c : Thread nD τ) arg4 fullShare X4
        ∗ owns (c : Thread nD τ) arg5 fullShare X5 ∗ owns (c : Thread nD τ) arg6 fullShare X6
        ∗ owns (c : Thread nD τ) arg7 fullShare Y ∗ owns (c : Thread nD τ) arg8 fullShare A ∗ owns (c : Thread nD τ) arg9 fullShare B
        ∗ owns (c : Thread nD τ) arg10 fullShare P
        ∗ owns (c : Thread nD τ) arg11 fullShare M ∗ owns (c : Thread nD τ) arg12 fullShare L ∗ owns (c : Thread nD τ) arg13 fullShare C) : sProp 𝕄)
      ⊢ iprop((iprop(owns (c : Thread nD τ) arg1 fullShare X1 ∗ owns (c : Thread nD τ) arg2 fullShare X2
          ∗ owns (c : Thread nD τ) arg3 fullShare X3 ∗ owns (c : Thread nD τ) arg4 fullShare X4
          ∗ owns (c : Thread nD τ) arg5 fullShare X5 ∗ owns (c : Thread nD τ) arg6 fullShare X6
          ∗ owns (c : Thread nD τ) arg7 fullShare (tile X1 X2 X3 X4 X5)
          ∗ owns (c : Thread nD τ) arg8 fullShare (closeA i (nextM i X1 X2 X3 X4 X5 M) (nextL i X1 X2 X3 X4 X5 M L) A)
          ∗ owns (c : Thread nD τ) arg9 fullShare (closeB i (nextM i X1 X2 X3 X4 X5 M) (nextL i X1 X2 X3 X4 X5 M L) (nextC i X1 X2 X3 X4 X5 X6 C) B)
          ∗ owns (c : Thread nD τ) arg10 fullShare (prods X1 X2 1)
          ∗ owns (c : Thread nD τ) arg11 fullShare (nextM i X1 X2 X3 X4 X5 M)
          ∗ owns (c : Thread nD τ) arg12 fullShare (nextL i X1 X2 X3 X4 X5 M L)
          ∗ owns (c : Thread nD τ) arg13 fullShare (nextC i X1 X2 X3 X4 X5 X6 C)) -∗ Q ⟨⟩)
        -∗ wp frame (wpE (defs₀ (F := F)) Variants.none c none) E (body i arg1 arg2 arg3 arg4 arg5 arg6 arg7 arg8 arg9 arg10 arg11 arg12 arg13) Q) := by
  have hord : ∀ y : S480x1024.Idx, ordTile y < (1 + 1) * 240 := fun y => by
    have h0 := place_lt _ (show (y 0).val < 480 from (y 0).isLt)
    have h1 : (y 1).val < 1024 := (y 1).isLt
    unfold ordTile
    omega
  unfold body
  iintro ⟨H1, H2, H3, H4, H5, H6, H7, H8, H9, H10, H11, H12, H13⟩ Hk
  iapply (run_start i arg11 arg12 arg13 c E M L C) $$ [H11 H12 H13]
  · isplitl [H11]; · iexact H11
    isplitl [H12]; · iexact H12
    iexact H13
  iintro ⟨H11, H12, H13⟩
  iapply (run_half i arg1 arg2 arg3 arg4 arg5 arg6 arg7 arg10 arg11 arg12 arg13 X1 X2 X3 X4 X5 X6 c E 0 (by decide) Y P _ _ _) $$ [H1 H2 H3 H4 H5 H6 H7 H10 H11 H12 H13]
  · unfold held
    rw [show 0 * 240 = 0 from rfl, upto_zero]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    isplitl [H12]; · iexact H12
    iexact H13
  iintro H
  iapply (run_half i arg1 arg2 arg3 arg4 arg5 arg6 arg7 arg10 arg11 arg12 arg13 X1 X2 X3 X4 X5 X6 c E 1 (by decide) Y _ _ _ _) $$ H
  unfold held
  rw [upto_all _ _ _ _ hord]
  iintro ⟨H1, H2, H3, H4, H5, H6, H7, H10, H11, H12, H13⟩
  iapply (run_finish i arg8 arg9 arg11 arg12 arg13 c E _ _ _ B A) $$ [H8 H9 H11 H12 H13]
  · isplitl [H8]; · iexact H8
    isplitl [H9]; · iexact H9
    isplitl [H11]; · iexact H11
    isplitl [H12]; · iexact H12
    iexact H13
  iintro ⟨H8, H9, H11, H12, H13⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end whole

end Cert.KernelIdeal.Shaped
-- ==== Proof.Eq.lean ====
module

public import proofs.«01_k».proof.Proof.Shape

/-! # The printed body is the structured one -/

@[expose] public section

set_option synthInstance.maxSize 4096

noncomputable section

namespace Cert.KernelIdeal.Shaped

open Idealize.ShloMosaic Idealize.SL.Sem
open Shapes1.Facts₀ Shapes2.Facts₀

variable {F : FTy → Type} [FloatOps F] [Facts]

/-- Programs that make the same request and continue alike are equal. -/
theorem op_congr {E : Type → Type} {α β : Type} {e : E β} {k k' : β → Prog E α} (h : ∀ x, k x = k' x) :
    Prog.op e k = Prog.op e k' := congrArg _ (funext h)

variable (i : grid0.Coords)
  (arg1 : Memref sig .tc .vmem S480x5120 .fp8e4m3) (harg1 : arg1.IsWhole) (arg2 : Memref sig .tc .vmem S5120x1024 .fp8e4m3) (harg2 : arg2.IsWhole) (arg3 : Memref sig .tc .vmem S1x1024 .f32) (harg3 : arg3.IsWhole) (arg4 : Memref sig .tc .vmem S80x1024 .i32) (harg4 : arg4.IsWhole) (arg5 : Memref sig .tc .vmem S160x8 .f32) (harg5 : arg5.IsWhole) (arg6 : Memref sig .tc .vmem S480x256 .i32) (harg6 : arg6.IsWhole) (arg7 : Memref sig .tc .vmem S480x1024 .f32) (harg7 : arg7.IsWhole) (arg8 : Memref sig .tc .vmem S480x1 .f32) (harg8 : arg8.IsWhole) (arg9 : Memref sig .tc .vmem S480x128 .f32) (harg9 : arg9.IsWhole) (arg10 : Memref sig .tc .vmem S480x512 .f32) (harg10 : arg10.IsWhole) (arg11 : Memref sig .tc .vmem S480x128 .f32) (harg11 : arg11.IsWhole) (arg12 : Memref sig .tc .vmem S480x128 .f32) (harg12 : arg12.IsWhole) (arg13 : Memref sig .tc .vmem S480x128 .f32) (harg13 : arg13.IsWhole)

set_option maxHeartbeats 0 in
set_option maxRecDepth 100000 in
/-- The printed body is the structured program: the start is compared branch by branch, then the loads and
stores one after another. -/
theorem body_eq :
    cc0__head_body (F := F) i arg1 harg1 arg2 harg2 arg3 harg3 arg4 harg4 arg5 harg5 arg6 harg6 arg7 harg7 arg8 harg8 arg9 harg9 arg10 harg10 arg11 harg11 arg12 harg12 arg13 harg13
      = body i arg1 arg2 arg3 arg4 arg5 arg6 arg7 arg8 arg9 arg10 arg11 arg12 arg13 := by
  unfold cc0__head_body k0_part709
  rw [Prog.bind_assoc]
  refine (congrArg (fun p => p >>= _) (?h : _ = start (F := F) i arg11 arg12 arg13 >>= fun _ => ?R)).trans ?_
  case h =>
    unfold k0_part1 start
    by_cases h : Scalar.cmpi .ne (Scalar.extui (Scalar.cmpi .eq (BitVec.ofNat 32 (i 0).val) 0#32) : BitVec 32) 0#32 = 1#1
    case neg => rw [dif_neg h, dif_neg h]; exact rfl
    case pos =>
      rw [dif_pos h, dif_pos h]
      iterate 6
        refine op_congr ?_
        intro _
      exact rfl
  rw [Prog.bind_assoc]
  unfold body
  refine congrArg (fun k => start (F := F) i arg11 arg12 arg13 >>= k) (funext fun _ => ?_)
  iterate 4008
    refine op_congr ?_
    intro _
  exact rfl

end Cert.KernelIdeal.Shaped
-- ==== Proof.Run.lean ====
module

public import proofs.«01_k».proof.Proof.Gen.KernelIdeal.Frame.Runs
public import proofs.«01_k».proof.Proof.Triple
public import proofs.«01_k».proof.Proof.Eq
public import Idealize.ShloMosaic.Lib.Claim

/-! # The run of the kernel

What every buffer holds point by point, the body's obligation against it, and the launch. -/

@[expose] public section

set_option maxRecDepth 16384

noncomputable section

namespace Cert.KernelIdeal.Shaped

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks of the inputs at a point. -/
abbrev in0 (c : Dev nD) (t : Fin cfg0.N) : Vec F S480x5120 .fp8e4m3 := iblk m c 0 t
abbrev in1 (c : Dev nD) (t : Fin cfg0.N) : Vec F S5120x1024 .fp8e4m3 := iblk m c 1 t
abbrev in2 (c : Dev nD) (t : Fin cfg0.N) : Vec F S1x1024 .f32 := iblk m c 2 t
abbrev in3 (c : Dev nD) (t : Fin cfg0.N) : Vec F S80x1024 .i32 := iblk m c 3 t
abbrev in4 (c : Dev nD) (t : Fin cfg0.N) : Vec F S160x8 .f32 := iblk m c 4 t
abbrev in5 (c : Dev nD) (t : Fin cfg0.N) : Vec F S480x256 .i32 := iblk m c 5 t

/-- Arrays of zeros: what the running arrays are taken to hold before the first point, which sets them anyway. -/
def none128 : Vec F S480x128 .f32 := fun _ => Scalar.ofBits .f32 0x00000000#32
/-- The same, of one column. -/
def none1 : Vec F S480x1 .f32 := fun _ => Scalar.ofBits .f32 0x00000000#32

/-- The three running arrays after point `t`, from what they held before it. -/
def step (c : Dev nD) (t : Fin cfg0.N) (p : Vec F S480x128 .f32 × Vec F S480x128 .f32 × Vec F S480x128 .f32) :
    Vec F S480x128 .f32 × Vec F S480x128 .f32 × Vec F S480x128 .f32 :=
  (nextM (grid0.coords t) (in0 m c t) (in1 m c t) (in2 m c t) (in3 m c t) (in4 m c t) p.1,
   nextL (grid0.coords t) (in0 m c t) (in1 m c t) (in2 m c t) (in3 m c t) (in4 m c t) p.1 p.2.1,
   nextC (grid0.coords t) (in0 m c t) (in1 m c t) (in2 m c t) (in3 m c t) (in4 m c t) (in5 m c t) p.2.2)

/-- The three running arrays after point `n`. -/
def carry (c : Dev nD) : (n : ℕ) → n < cfg0.N → Vec F S480x128 .f32 × Vec F S480x128 .f32 × Vec F S480x128 .f32
  | 0, h => step m c ⟨0, h⟩ (none128, none128, none128)
  | n + 1, h => step m c ⟨n + 1, h⟩ (carry c n (Nat.lt_of_succ_lt h))

/-- The region's invariant: before the first point the scratch holds anything; afterwards the running arrays hold what
the point before left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((carry m c n hn).1)
      ∗ owns (c : Thread nD τ) scM0_2 fullShare ((carry m c n hn).2.1) ∗ owns (c : Thread nD τ) scM0_3 fullShare ((carry m c n hn).2.2)) ∗ (∃ r, prngReg c r))

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tile (in0 m c t) (in1 m c t) (in2 m c t) (in3 m c t) (in4 m c t)
    | ⟨7, _⟩ => closeA (grid0.coords t) (carry m c t.val t.isLt).1 (carry m c t.val t.isLt).2.1 none1
    | ⟨8, _⟩ => closeB (grid0.coords t) (carry m c t.val t.isLt).1 (carry m c t.val t.isLt).2.1 (carry m c t.val t.isLt).2.2 none128
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = tile (in0 m c t) (in1 m c t) (in2 m c t) (in3 m c t) (in4 m c t) := by dsimp only [dats]
theorem after0_7 (c : Dev nD) (t : Fin cfg0.N) : (dats m 0 c).after 7 t = closeA (grid0.coords t) (carry m c t.val t.isLt).1 (carry m c t.val t.isLt).2.1 none1 := by dsimp only [dats]
theorem after0_8 (c : Dev nD) (t : Fin cfg0.N) : (dats m 0 c).after 8 t = closeB (grid0.coords t) (carry m c t.val t.isLt).1 (carry m c t.val t.isLt).2.1 (carry m c t.val t.isLt).2.2 none128 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The two closing outputs are left alone away from the last point. -/
theorem idle7 : ∀ t : Fin cfg0.N, ¬cond0_1 (grid0.coords t) → cfg0.idle 7 (grid0.coords t) = true := by decide +kernel
theorem idle8 : ∀ t : Fin cfg0.N, ¬cond0_1 (grid0.coords t) → cfg0.idle 8 (grid0.coords t) = true := by decide +kernel
theorem noFlush7 : ∀ t : Fin cfg0.N, ¬cond0_1 (grid0.coords t) → (cfg0.win 7).flush t = false := by decide +kernel
theorem noFlush8 : ∀ t : Fin cfg0.N, ¬cond0_1 (grid0.coords t) → (cfg0.win 8).flush t = false := by decide +kernel
theorem live7 : ∀ t : Fin cfg0.N, cond0_1 (grid0.coords t) → cfg0.idle 7 (grid0.coords t) = false := by decide +kernel
theorem live8 : ∀ t : Fin cfg0.N, cond0_1 (grid0.coords t) → cfg0.idle 8 (grid0.coords t) = false := by decide +kernel

/-- What the pipeline asks of the body about a buffer it writes back, from what the body leaves in it. -/
theorem leaves7 (c : Dev nD) (t : Fin cfg0.N) (M L : Vec F S480x128 .f32) (A : Vec F S480x1 .f32)
    (hM : (carry m c t.val t.isLt).1 = M) (hL : (carry m c t.val t.isLt).2.1 = L) (d)
    (hA : A = (dats m 0 c).before 7 t d) :
    (owns (c : Thread nD τ) (ms0_7 t) fullShare (closeA (grid0.coords t) M L A) : sProp 𝕄) ⊢ (dats m 0 c).leavesExact 7 t := by
  subst hM hL
  by_cases h : cond0_1 (grid0.coords t)
  · unfold Dat.leavesExact
    rw [live7 t h, after0_7]
    unfold closeA
    rw [if_pos h, if_pos h]
  · rw [Dat.leavesExact_idle (dats m 0 c) 7 t (idle7 t h) (noFlush7 t h)]
    unfold closeA
    rw [if_neg h, hA]
    iintro H
    iexists _
    iexact H

theorem leaves8 (c : Dev nD) (t : Fin cfg0.N) (M L C B : Vec F S480x128 .f32)
    (hM : (carry m c t.val t.isLt).1 = M) (hL : (carry m c t.val t.isLt).2.1 = L) (hC : (carry m c t.val t.isLt).2.2 = C) (d)
    (hB : B = (dats m 0 c).before 8 t d) :
    (owns (c : Thread nD τ) (ms0_8 t) fullShare (closeB (grid0.coords t) M L C B) : sProp 𝕄) ⊢ (dats m 0 c).leavesExact 8 t := by
  subst hM hL hC
  by_cases h : cond0_1 (grid0.coords t)
  · unfold Dat.leavesExact
    rw [live8 t h, after0_8]
    unfold closeB
    rw [if_pos h, if_pos h]
  · rw [Dat.leavesExact_idle (dats m 0 c) 8 t (idle8 t h) (noFlush8 t h)]
    unfold closeB
    rw [if_neg h, hB]
    iintro H
    iexists _
    iexact H

/-- At the first point it does not matter what a running array held. -/
theorem fresh_at {i : grid0.Coords} (h : atStart i) (b : BitVec 32) (X X' : Vec F S480x128 .f32) : fresh i b X = fresh i b X' := by
  unfold fresh
  rw [if_pos h, if_pos h]

theorem nextM_at {i : grid0.Coords} (h : atStart i) (X1 : Vec F S480x5120 .fp8e4m3) (X2 : Vec F S5120x1024 .fp8e4m3) (X3 : Vec F S1x1024 .f32)
    (X4 : Vec F S80x1024 .i32) (X5 : Vec F S160x8 .f32) (M M' : Vec F S480x128 .f32) :
    nextM i X1 X2 X3 X4 X5 M = nextM i X1 X2 X3 X4 X5 M' := by
  unfold nextM
  rw [fresh_at h _ M M']

theorem nextL_at {i : grid0.Coords} (h : atStart i) (X1 : Vec F S480x5120 .fp8e4m3) (X2 : Vec F S5120x1024 .fp8e4m3) (X3 : Vec F S1x1024 .f32)
    (X4 : Vec F S80x1024 .i32) (X5 : Vec F S160x8 .f32) (M M' L L' : Vec F S480x128 .f32) :
    nextL i X1 X2 X3 X4 X5 M L = nextL i X1 X2 X3 X4 X5 M' L' := by
  unfold nextL
  rw [fresh_at h _ M M', fresh_at h _ L L']

theorem nextC_at {i : grid0.Coords} (h : atStart i) (X1 : Vec F S480x5120 .fp8e4m3) (X2 : Vec F S5120x1024 .fp8e4m3) (X3 : Vec F S1x1024 .f32)
    (X4 : Vec F S80x1024 .i32) (X5 : Vec F S160x8 .f32) (X6 : Vec F S480x256 .i32) (C C' : Vec F S480x128 .f32) :
    nextC i X1 X2 X3 X4 X5 X6 C = nextC i X1 X2 X3 X4 X5 X6 C' := by
  unfold nextC
  rw [fresh_at h _ C C']

/-- The running arrays after the first point, from any contents it may have found. -/
theorem carry_zero (c : Dev nD) (t : Fin cfg0.N) (hz : t.val = 0) (M L C : Vec F S480x128 .f32) :
    (carry m c t.val t.isLt).1 = nextM (grid0.coords t) (in0 m c t) (in1 m c t) (in2 m c t) (in3 m c t) (in4 m c t) M
    ∧ (carry m c t.val t.isLt).2.1 = nextL (grid0.coords t) (in0 m c t) (in1 m c t) (in2 m c t) (in3 m c t) (in4 m c t) M L
    ∧ (carry m c t.val t.isLt).2.2 = nextC (grid0.coords t) (in0 m c t) (in1 m c t) (in2 m c t) (in3 m c t) (in4 m c t) (in5 m c t) C := by
  have h : atStart (grid0.coords t) := (hcond0_0 t).mpr (by rw [hz])
  obtain ⟨n, hn⟩ := t
  obtain rfl : n = 0 := hz
  dsimp only at h ⊢
  rw [carry]
  unfold step
  dsimp only
  rw [nextM_at h _ _ _ _ _ none128 M, nextL_at h _ _ _ _ _ none128 M none128 L, nextC_at h _ _ _ _ _ _ none128 C]
  exact ⟨rfl, rfl, rfl⟩

theorem carry_succ (c : Dev nD) (n : ℕ) (h : n + 1 < cfg0.N) :
    (carry m c (n + 1) h).1 = nextM (grid0.coords ⟨n + 1, h⟩) (in0 m c ⟨n + 1, h⟩) (in1 m c ⟨n + 1, h⟩) (in2 m c ⟨n + 1, h⟩) (in3 m c ⟨n + 1, h⟩) (in4 m c ⟨n + 1, h⟩) (carry m c n (Nat.lt_of_succ_lt h)).1
    ∧ (carry m c (n + 1) h).2.1 = nextL (grid0.coords ⟨n + 1, h⟩) (in0 m c ⟨n + 1, h⟩) (in1 m c ⟨n + 1, h⟩) (in2 m c ⟨n + 1, h⟩) (in3 m c ⟨n + 1, h⟩) (in4 m c ⟨n + 1, h⟩) (carry m c n (Nat.lt_of_succ_lt h)).1 (carry m c n (Nat.lt_of_succ_lt h)).2.1
    ∧ (carry m c (n + 1) h).2.2 = nextC (grid0.coords ⟨n + 1, h⟩) (in0 m c ⟨n + 1, h⟩) (in1 m c ⟨n + 1, h⟩) (in2 m c ⟨n + 1, h⟩) (in3 m c ⟨n + 1, h⟩) (in4 m c ⟨n + 1, h⟩) (in5 m c ⟨n + 1, h⟩) (carry m c n (Nat.lt_of_succ_lt h)).2.2 := by
  have e : carry m c (n + 1) h = step m c ⟨n + 1, h⟩ (carry m c n (Nat.lt_of_succ_lt h)) := by rw [carry]
  rw [e]
  generalize carry m c n (Nat.lt_of_succ_lt h) = p
  unfold step
  dsimp only
  exact ⟨rfl, rfl, rfl⟩

theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((carry m c n hn).1)
      ∗ owns (c : Thread nD τ) scM0_2 fullShare ((carry m c n hn).2.1) ∗ owns (c : Thread nD τ) scM0_3 fullShare ((carry m c n hn).2.2)) ∗ (∃ r, prngReg c r)) := rfl

/-- The invariant before a point, as what the body needs of it: the running arrays at contents the point's results may
be computed from. -/
theorem PhiS_before (c : Dev nD) (t : Fin cfg0.N) :
    (PhiS m c t.val (Nat.le_of_lt t.isLt) : sProp 𝕄) ⊢ iprop(∃ P M L C, ⌜(carry m c t.val t.isLt).1 = nextM (grid0.coords t) (in0 m c t) (in1 m c t) (in2 m c t) (in3 m c t) (in4 m c t) M
        ∧ (carry m c t.val t.isLt).2.1 = nextL (grid0.coords t) (in0 m c t) (in1 m c t) (in2 m c t) (in3 m c t) (in4 m c t) M L
        ∧ (carry m c t.val t.isLt).2.2 = nextC (grid0.coords t) (in0 m c t) (in1 m c t) (in2 m c t) (in3 m c t) (in4 m c t) (in5 m c t) C⌝
      ∗ owns (c : Thread nD τ) scM0_0 fullShare P ∗ owns (c : Thread nD τ) scM0_1 fullShare M ∗ owns (c : Thread nD τ) scM0_2 fullShare L
      ∗ owns (c : Thread nD τ) scM0_3 fullShare C ∗ (∃ r, prngReg c r)) := by
  obtain ⟨n, hn⟩ := t
  cases n with
  | zero =>
    rw [show PhiS m c (⟨0, hn⟩ : Fin cfg0.N).val (Nat.le_of_lt hn) = Pipeline.ΦA spec0 c from rfl, PhiA0_eq]
    iintro ⟨⟨⟨%P, H0⟩, ⟨%M, H1⟩, ⟨%L, H2⟩, ⟨%C, H3⟩⟩, Hg⟩
    iexists P, M, L, C
    isplitr
    · ipureintro; exact carry_zero m c ⟨0, hn⟩ rfl M L C
    isplitl [H0]; · iexact H0
    isplitl [H1]; · iexact H1
    isplitl [H2]; · iexact H2
    isplitl [H3]; · iexact H3
    iexact Hg
  | succ n =>
    rw [show PhiS m c (⟨n + 1, hn⟩ : Fin cfg0.N).val (Nat.le_of_lt hn) = PhiS m c (n + 1) (Nat.le_of_lt hn) from rfl, PhiS_succ]
    iintro ⟨⟨⟨%P, H0⟩, H1, H2, H3⟩, Hg⟩
    iexists P, _, _, _
    isplitr
    · ipureintro; exact carry_succ m c n hn
    isplitl [H0]; · iexact H0
    isplitl [H1]; · iexact H1
    isplitl [H2]; · iexact H2
    isplitl [H3]; · iexact H3
    iexact Hg

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl]
  rw [show (dats m 0 c).Φ t.castSucc = PhiS m c t.val (Nat.le_of_lt t.isLt) from by dsimp only [dats]; exact Pipeline.Dat.Φ_castSucc (PhiS m c) t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [body_eq]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HP := (PhiS_before m c t) $$ HP
  icases HP with ⟨%P, %M, %L, %C, %hc, HS0, HS1, HS2, HS3, Hg⟩
  iapply (run_body (grid0.coords t) (in0 m c t) (in1 m c t) (in2 m c t) (in3 m c t) (in4 m c t) (in5 m c t)
    _ _ _ _ _ _ _ _ _ _ _ _ _ c Set.univ _ _ P M L C _) $$ [H0 H1 H2 H3 H4 H5 H6 H7 H8 HS0 HS1 HS2 HS3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iexact HS3
  iintro ⟨H0, H1, H2, H3, H4, H5, H6, H7, H8, HS0, HS1, HS2, HS3⟩
  isplitl [HS0 HS1 HS2 HS3 Hg]
  · rw [PhiS_succ, hc.1, hc.2.1, hc.2.2]
    isplitl [HS0 HS1 HS2 HS3]
    · isplitl [HS0]; · iexists _; iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7 m c t _ _ _ hc.1 hc.2.1 d7 rfl) $$ H7
  iapply (leaves8 m c t _ _ _ _ hc.1 hc.2.1 hc.2.2 d8 rfl) $$ H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, show PhiS m c 0 (Nat.zero_le _) = Pipeline.ΦA spec0 c from rfl]
  try exact Idealize.SL.BI.Entails.refl _

/-- After the last point the invariant gives the scratch back: its contents are forgotten. -/
theorem hout (c : Dev nD) : (dats m 0 c).Φ (Fin.last cfg0.N) ⊢ Pipeline.ΦA spec0 c := by
  rw [show (dats m 0 c).Φ (Fin.last cfg0.N) = PhiS m c 64 (Nat.le_refl _) from rfl, show PhiS m c 64 (Nat.le_refl _) = _ from PhiS_succ m c 63 _, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexists _; iexact HS2
    iexists _; iexact HS3
  iexact Hg

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Shaped

end
-- ==== Proof.KerOps.lean ====
module

public import proofs.«01_k».proof.Proof.Triple
public import proofs.«01_k».proof.Proof.Count
public import Idealize.ShloMosaic.Lib.StableHlo.ReadAt

/-! # One tile of the kernel, as numbers

The pieces of the kernel's body read at an index, when its input blocks hold the blocks of the
arguments. -/

@[expose] public section

set_option maxRecDepth 16384

noncomputable section

namespace Cert.KernelIdeal.Shaped

open Idealize.ShloMosaic Idealize.ShloMosaic.VecWindow
open Shapes1.Facts₀ Shapes2.Facts₀

variable [Facts]

/-- A right shift by sixteen. -/
theorem shr16 (x : BitVec 32) : IntOp.shrui .vector x 16#32 = x >>> 16 := by
  unfold IntOp.shrui
  rw [if_pos (by decide)]
  rfl

/-- The field of a word that belongs to a half of the batch, at an index. -/
def half (h : ℕ) (w : BitVec 32) : BitVec 32 := if h = 0 then w else w >>> 16

theorem count_at (h j : ℕ) (hj : j < 3) (w : IVec S8x128 32) (y : S8x128.Idx) :
    count j (field h w) y = Count.word j (half h (w y)) := by
  have e : field h w y = half h (w y) := by
    cases h with
    | zero => rfl
    | succ n => exact shr16 (w y)
  have b : ∀ n : BitVec 32, n.toNat < 32 → bit n (field h w) y = half h (w y) >>> n.toNat &&& 1#32 := by
    intro n hn
    rw [← e]
    show IntOp.andi (IntOp.shrui .vector _ n) 1#32 = _
    unfold IntOp.shrui
    rw [if_pos hn]
    rfl
  have b12 := b 12#32 (by decide)
  have b13 := b 13#32 (by decide)
  have b14 := b 14#32 (by decide)
  have a : andi (field h w) (broadcast S8x128 4095#32) y = half h (w y) &&& 4095#32 := by rw [← e]; rfl
  interval_cases j
  · show _ + _ = _; rw [a, b12]; rfl
  · show _ + _ + _ = _; rw [a, b12, b13]; rfl
  · show _ + _ + _ + _ = _; rw [a, b12, b13, b14]; rfl

theorem fcount_at (h j : ℕ) (hj : j < 3) (w : IVec S8x128 32) (y : S8x128.Idx) :
    fcount (F := Ideal) h j w y = ((Spec.count j (half h (w y)) : ℝ) : EReal) := by
  show (((count j (field h w) y).toInt : ℝ) : EReal) = _
  rw [count_at h j hj, Count.word_toInt j hj]
  norm_cast

theorem zero_word : Ideal.ofBits .f32 0x00000000#32 = (0 : EReal) := by
  pointwise
theorem one_word : Ideal.ofBits .f32 0x3F800000#32 = (1 : EReal) := by
  pointwise

/-- The penalised logit at an index. -/
theorem penal_at (h j : ℕ) (hj : j < 3) (P F R V XS : S8x128.Idx → EReal) (W : IVec S8x128 32) (A : S8x128.Idx → EReal)
    (WS : S1x128.Idx → EReal) (y : S8x128.Idx) (p : ℝ) (f r xs a ws : EReal) (hP : P y = p) (hF : F y = f) (hR : R y = r)
    (hV : V y = Ideal.div 1 r) (hXS : XS y = xs) (hA : A y = a) (hWS : WS (ix2 0 (y 1)) = ws) :
    penal (F := Ideal) h j P F R V XS W A WS y = Maths.pen (a * xs * ws) (Spec.count j (half h (W y))) p f r := by
  rw [← Maths.pen_by_factor, ← hP, ← hF, ← hR, ← hXS, ← hA, ← hWS]
  rw [hR, ← hV, ← fcount_at h j hj]
  unfold penal scaled seen
  pointwise
  rw [hR]

/-- A window of a matrix at an index. -/
theorem window2 {α : Type} {M N m n : ℕ} (X : (⟨2, ![M, N]⟩ : Shape).Idx → α) (a b : ℕ)
    (inb : ∀ d, (![a, b] : Fin 2 → ℕ) d + (⟨2, ![m, n]⟩ : Shape).size d ≤ (⟨2, ![M, N]⟩ : Shape).size d)
    (y : (⟨2, ![m, n]⟩ : Shape).Idx) (R : Fin M) (C : Fin N) (hR : R.val = a + (y 0).val) (hC : C.val = b + (y 1).val) :
    window (s := ⟨2, ![M, N]⟩) X ![a, b] (⟨2, ![m, n]⟩ : Shape).size inb y = X (ix2 R C) := by
  refine congrArg X (funext fun d => ?_)
  match d with
  | 0 => exact Fin.ext (show a + 1 * (y 0).val = R.val by omega)
  | 1 => exact Fin.ext (show b + 1 * (y 1).val = C.val by omega)

/-- The input blocks of tile `T` hold the blocks of the arguments. -/
structure Blocks (A : Spec.Args) (T : ℕ) (X1 : S480x5120.Idx → EReal) (X2 : S5120x1024.Idx → EReal) (X3 : S1x1024.Idx → EReal)
    (X4 : S80x1024.Idx → BitVec 32) (X5 : S160x8.Idx → EReal) : Prop where
  x : ∀ (b : Fin 160) (k : Fin 3) (i : Fin 5120) (R : Fin 480), R.val = k.val * 160 + b.val → X1 (ix2 R i) = A.x b k i
  w : ∀ (i : Fin 5120) (C : Fin 1024) (v : Fin 65536), v.val = T * 1024 + C.val → X2 (ix2 i C) = A.w i v
  ws : ∀ (C : Fin 1024) (v : Fin 65536), v.val = T * 1024 + C.val → X3 (ix2 0 C) = A.ws v
  cnt : ∀ (b : Fin 80) (C : Fin 1024) (v : Fin 65536), v.val = T * 1024 + C.val → X4 (ix2 b C) = A.cnt b v
  p : ∀ b, X5 (ix2 b 0) = (A.p b : EReal)
  f : ∀ b, X5 (ix2 b 1) = A.f b
  r : ∀ b, X5 (ix2 b 2) = A.r b
  v : ∀ b, X5 (ix2 b 3) = Ideal.div 1 (A.r b)
  xs : ∀ b (k : Fin 3) (P : Fin 8), P.val = 4 + k.val → X5 (ix2 b P) = A.xs b k

variable {A : Spec.Args} {T : ℕ} {X1 : S480x5120.Idx → EReal} {X2 : S5120x1024.Idx → EReal} {X3 : S1x1024.Idx → EReal}
    {X4 : S80x1024.Idx → BitVec 32} {X5 : S160x8.Idx → EReal}

/-- A parameter at an index. -/
theorem par_at (X : S160x8.Idx → EReal) (t p : ℕ) (hp : p + 1 ≤ 8) (y : S8x128.Idx) (b : Fin 160) (hb : b.val = prow (t % 2) (t / 2) + (y 0).val) :
    par (F := Ideal) X t p hp y = X (ix2 b ⟨p, hp⟩) := by
  refine Eq.trans ?_ (window2 X (prow (t % 2) (t / 2)) p (inb2 (prow_le (t % 2) (t / 2)) hp) (ix2 (y 0) 0) b ⟨p, hp⟩ hb rfl)
  unfold par spread
  pointwise

/-- A product at an index. -/
theorem prods_at (h : Blocks A T X1 X2 X3 X4 X5) (s : ℕ) (b : Fin 160) (k : Fin 3) (R : Fin 480) (hR : R.val = k.val * 160 + b.val)
    (C : Fin 512) (v : Fin 65536) (hv : v.val = T * 1024 + (s % 2 * 512 + C.val)) :
    prods (F := Ideal) X1 X2 s (ix2 R C) = ∑ i, A.x b k i * A.w i v := by
  have e : prods (F := Ideal) X1 X2 s (ix2 R C) = ∑ i : Fin 5120, X1 (ix2 R i) * X2 (ix2 i ⟨s % 2 * 512 + C.val, by omega⟩) := by
    unfold prods products
    pointwise
    refine Finset.sum_congr rfl fun i _ => congrArg₂ (fun a b : EReal => a * b) ?_ ?_
    · exact window2 (m := 480) (n := 5120) X1 0 0 inb_S480x5120_S480x5120_0_0 (ix2 R i) R i (Nat.zero_add _).symm (Nat.zero_add _).symm
    · exact window2 (m := 5120) (n := 512) X2 0 (s % 2 * 512) (inb2 (Nat.le_refl _) (by omega)) (ix2 i C) i ⟨s % 2 * 512 + C.val, by omega⟩ (Nat.zero_add _).symm rfl
  rw [e]
  refine Finset.sum_congr rfl fun i _ => ?_
  rw [h.x b k i R hR, h.w i _ v hv]

/-- The logits of a block at an index. -/
theorem logits_at (h : Blocks A T X1 X2 X3 X4 X5) (s t j q : ℕ) (hs : s < 2) (ht : t < 20) (hj : j < 3) (hq : q < 4) (y : S8x128.Idx)
    (b : Fin 160) (hb : b.val = prow (t % 2) (t / 2) + (y 0).val) (v : Fin 65536) (hv : v.val = T * 1024 + (tcol s q + (y 1).val)) :
    logits (F := Ideal) X1 X2 X3 X4 X5 s t j q y = Spec.z2 A b ⟨j, hj⟩ v := by
  have h0 : (y 0).val < 8 := (y 0).isLt
  have h1 : (y 1).val < 128 := (y 1).isLt
  have hR : row (t % 2) (t / 2) j + (y 0).val = j * 160 + b.val := by rw [hb]; unfold row prow; omega
  have hc : crow (t / 2) + (y 0).val < 80 := by unfold crow; omega
  have hq' : tcol s q + (y 1).val < 1024 := by unfold tcol; omega
  have hC : scol q + (y 1).val < 512 := by unfold scol; omega
  unfold logits
  refine (penal_at (t % 2) j hj _ _ _ _ _ _ _ _ y (A.p b) (A.f b) (A.r b) (A.xs b ⟨j, hj⟩) (∑ i, A.x b ⟨j, hj⟩ i * A.w i v) (A.ws v)
    ((par_at X5 t 0 (by decide) y b hb).trans (h.p b)) ((par_at X5 t 1 (by decide) y b hb).trans (h.f b))
    ((par_at X5 t 2 (by decide) y b hb).trans (h.r b)) ((par_at X5 t 3 (by decide) y b hb).trans (h.v b))
    ((par_at X5 t (4 + j % 3) (by omega) y b hb).trans (h.xs b ⟨j, hj⟩ _ (by simp only; omega)))
    ((window2 (prods (F := Ideal) X1 X2 s) _ _ (inb2 (row_le (t % 2) (t / 2) j) (scol_le q)) y ⟨j * 160 + b.val, by omega⟩ ⟨scol q + (y 1).val, hC⟩ hR.symm rfl).trans
      (prods_at h s b ⟨j, hj⟩ _ rfl _ v (by rw [hv]; unfold tcol scol; simp only; omega)))
    ((window2 (m := 1) (n := 128) X3 0 (tcol s q) (inb2 (Nat.le_refl 1) (tcol_le s q)) (ix2 0 (y 1)) 0 ⟨tcol s q + (y 1).val, hq'⟩ rfl rfl).trans (h.ws _ v hv))).trans ?_
  have ew : window (s := S80x1024) X4 ![crow (t / 2), tcol s q] S8x128.size (inb2 (crow_le (t / 2)) (tcol_le s q)) y
      = A.cnt ⟨crow (t / 2) + (y 0).val, hc⟩ v :=
    (window2 X4 _ _ (inb2 (crow_le (t / 2)) (tcol_le s q)) y ⟨_, hc⟩ ⟨_, hq'⟩ rfl rfl).trans (h.cnt _ _ v hv)
  have ec : Spec.count j (half (t % 2) (window (s := S80x1024) X4 ![crow (t / 2), tcol s q] S8x128.size (inb2 (crow_le (t / 2)) (tcol_le s q)) y))
      = Spec.count j (Spec.field A b v) := by
    rw [ew]
    unfold Spec.field half
    by_cases h2 : t % 2 = 0
    · have hb' : b.val < 80 := by rw [hb]; unfold prow; omega
      rw [if_pos h2, dif_pos hb', Count.count_low j hj]
      refine congrArg (fun r => Spec.count j (A.cnt r v)) (Fin.ext ?_)
      show crow (t / 2) + (y 0).val = b.val
      rw [hb]; unfold prow crow; omega
    · have hb' : ¬ b.val < 80 := by rw [hb]; unfold prow; omega
      rw [if_neg h2, dif_neg hb']
      refine congrArg (fun r => Spec.count j (A.cnt r v >>> 16)) (Fin.ext ?_)
      show crow (t / 2) + (y 0).val = b.val - 80
      rw [hb]; unfold prow crow; omega
  unfold Spec.z2 Spec.z
  rw [← ec]

/-- The logits of a block of eight rows. -/
theorem block_at (h : Blocks A T X1 X2 X3 X4 X5) (s q R : ℕ) (hs : s < 2) (hq : q < 4) (hR : R < 60) (y : S8x128.Idx)
    (b : Fin 160) (k : Fin 3) (hb : R * 8 + (y 0).val = k.val * 160 + b.val) (v : Fin 65536) (hv : v.val = T * 1024 + (s * 512 + q * 128 + (y 1).val)) :
    logits (F := Ideal) X1 X2 X3 X4 X5 s (grp R) (R / 20) q y = Spec.z2 A b k v := by
  have h0 : (y 0).val < 8 := (y 0).isLt
  have hk : R / 20 = k.val := by omega
  have hj : R / 20 < 3 := by omega
  have g2 : grp R % 2 = R % 20 / 10 := by unfold grp; omega
  have gd : grp R / 2 = R % 10 := by unfold grp; omega
  have e := logits_at h s (grp R) (R / 20) q hs (by unfold grp; omega) hj hq y b (by rw [g2, gd]; unfold prow; omega) v (by unfold tcol; omega)
  rw [e]
  exact congrArg (fun k => Spec.z2 A b k v) (Fin.ext hk)

/-- A penalised logit by its column, as a natural number. -/
def zat (A : Spec.Args) (b : Fin 160) (k : Fin 3) (n : ℕ) : EReal := if h : n < 65536 then Spec.z2 A b k ⟨n, h⟩ else 0

/-- The logits of a block, by rows of the whole array. -/
theorem block_zat (h : Blocks A T X1 X2 X3 X4 X5) (hT : T < 64) (s q : ℕ) (hs : s < 2) (hq : q < 4) (R : Fin 480) (l : Fin 128)
    (b : Fin 160) (k : Fin 3) (hR : R.val = k.val * 160 + b.val) :
    logits (F := Ideal) X1 X2 X3 X4 X5 s (grp (R.val / 8)) (R.val / 8 / 20) q (at8 R.val l.val)
      = zat A b k (((T * 2 + s) * 4 + q) * 128 + l.val) := by
  have hl := l.isLt
  have hv : ((T * 2 + s) * 4 + q) * 128 + l.val < 65536 := by omega
  unfold zat
  rw [dif_pos hv]
  refine block_at h s q (R.val / 8) hs hq (by omega) _ b k ?_ _ ?_
  · show R.val / 8 * 8 + R.val % 8 = _; omega
  · show ((T * 2 + s) * 4 + q) * 128 + l.val = T * 1024 + (s * 512 + q * 128 + l.val % 128); omega

/-- The tile at an index. -/
theorem tile_at (h : Blocks A T X1 X2 X3 X4 X5) (R : Fin 480) (C : Fin 1024) (b : Fin 160) (k : Fin 3) (hR : R.val = k.val * 160 + b.val)
    (v : Fin 65536) (hv : v.val = T * 1024 + C.val) : tile (F := Ideal) X1 X2 X3 X4 X5 (ix2 R C) = Spec.z2 A b k v := by
  refine block_at h (C.val / 128 / 4) (C.val / 128 % 4) (R.val / 8) (by omega) (by omega) (by omega) _ b k ?_ v ?_
  · show R.val / 8 * 8 + R.val % 8 = _; omega
  · show v.val = T * 1024 + (C.val / 128 / 4 * 512 + C.val / 128 % 4 * 128 + C.val % 128); omega

theorem rows8_at (X : S480x128.Idx → EReal) (R : Fin 480) (l : Fin 128) : rows8 (F := Ideal) X (R.val / 8) (at8 R.val l.val) = X (ix2 R l) :=
  window2 (m := 8) (n := 128) X _ 0 (inb2 (rows_le _) (by decide)) _ R l (show R.val = R.val / 8 % 60 * 8 + R.val % 8 by omega)
    (show l.val = 0 + l.val % 128 by omega)

/-- The running maximum after half a tile. -/
theorem stepM_at (h : Blocks A T X1 X2 X3 X4 X5) (hT : T < 64) (s : ℕ) (hs : s < 2) (M : S480x128.Idx → EReal) (R : Fin 480) (l : Fin 128)
    (b : Fin 160) (k : Fin 3) (hR : R.val = k.val * 160 + b.val) :
    stepM (F := Ideal) X1 X2 X3 X4 X5 s M (ix2 R l)
      = max (max (max (max (M (ix2 R l)) (zat A b k (((T * 2 + s) * 4 + 0) * 128 + l.val))) (zat A b k (((T * 2 + s) * 4 + 1) * 128 + l.val)))
          (zat A b k (((T * 2 + s) * 4 + 2) * 128 + l.val))) (zat A b k (((T * 2 + s) * 4 + 3) * 128 + l.val)) := by
  rw [← block_zat h hT s 0 hs (by decide) R l b k hR, ← block_zat h hT s 1 hs (by decide) R l b k hR,
    ← block_zat h hT s 2 hs (by decide) R l b k hR, ← block_zat h hT s 3 hs (by decide) R l b k hR, ← rows8_at M R l]
  unfold stepM blocks newMax
  pointwise

/-- The block of a running array an entry lies in. -/
theorem blocks_at {α : Type} (w : ℕ → ℕ → S8x128.Idx → α) (R : Fin 480) (l : Fin 128) :
    blocks (n := 128) w (ix2 R l) = w (R.val / 8) (l.val / 128) (at8 R.val l.val) := rfl

/-- The running sum's step at an index. -/
theorem newSum_at (m l z0 z1 z2 z3 : S8x128.Idx → EReal) (y : S8x128.Idx) :
    shapeCast S8x128 (newSum (F := Ideal) m l z0 z1 z2 z3) shapeCasts_S8x128_S8x128 y
      = l y * Ideal.exp (m y - shapeCast S8x128 (newMax (F := Ideal) m z0 z1 z2 z3) shapeCasts_S8x128_S8x128 y)
        + Ideal.exp (z0 y - shapeCast S8x128 (newMax (F := Ideal) m z0 z1 z2 z3) shapeCasts_S8x128_S8x128 y)
        + Ideal.exp (z1 y - shapeCast S8x128 (newMax (F := Ideal) m z0 z1 z2 z3) shapeCasts_S8x128_S8x128 y)
        + Ideal.exp (z2 y - shapeCast S8x128 (newMax (F := Ideal) m z0 z1 z2 z3) shapeCasts_S8x128_S8x128 y)
        + Ideal.exp (z3 y - shapeCast S8x128 (newMax (F := Ideal) m z0 z1 z2 z3) shapeCasts_S8x128_S8x128 y) := by
  unfold newSum
  pointwise

theorem stepM_eq (s : ℕ) (M : S480x128.Idx → EReal) (R : Fin 480) (l : Fin 128) : stepM (F := Ideal) X1 X2 X3 X4 X5 s M (ix2 R l)
    = shapeCast S8x128 (newMax (F := Ideal) (rows8 (F := Ideal) M (R.val / 8)) (logits (F := Ideal) X1 X2 X3 X4 X5 s (grp (R.val / 8)) (R.val / 8 / 20) 0)
      (logits (F := Ideal) X1 X2 X3 X4 X5 s (grp (R.val / 8)) (R.val / 8 / 20) 1) (logits (F := Ideal) X1 X2 X3 X4 X5 s (grp (R.val / 8)) (R.val / 8 / 20) 2)
      (logits (F := Ideal) X1 X2 X3 X4 X5 s (grp (R.val / 8)) (R.val / 8 / 20) 3)) shapeCasts_S8x128_S8x128 (at8 R.val l.val) := by
  unfold stepM
  rw [blocks_at]

theorem stepL_eq (s : ℕ) (M L : S480x128.Idx → EReal) (R : Fin 480) (l : Fin 128) : stepL (F := Ideal) X1 X2 X3 X4 X5 s M L (ix2 R l)
    = shapeCast S8x128 (newSum (F := Ideal) (rows8 (F := Ideal) M (R.val / 8)) (rows8 (F := Ideal) L (R.val / 8))
      (logits (F := Ideal) X1 X2 X3 X4 X5 s (grp (R.val / 8)) (R.val / 8 / 20) 0)
      (logits (F := Ideal) X1 X2 X3 X4 X5 s (grp (R.val / 8)) (R.val / 8 / 20) 1) (logits (F := Ideal) X1 X2 X3 X4 X5 s (grp (R.val / 8)) (R.val / 8 / 20) 2)
      (logits (F := Ideal) X1 X2 X3 X4 X5 s (grp (R.val / 8)) (R.val / 8 / 20) 3)) shapeCasts_S8x128_S8x128 (at8 R.val l.val) := by
  unfold stepL
  rw [blocks_at]

/-- The running maximum and sum after half a tile. -/
theorem step_lane (h : Blocks A T X1 X2 X3 X4 X5) (hT : T < 64) (s : ℕ) (hs : s < 2) (M L : S480x128.Idx → EReal) (R : Fin 480) (l : Fin 128)
    (b : Fin 160) (k : Fin 3) (hR : R.val = k.val * 160 + b.val) (S : EReal) (hl : Maths.Lane S (M (ix2 R l)) (L (ix2 R l))) :
    Maths.Lane (S + (Ideal.exp (zat A b k (((T * 2 + s) * 4 + 0) * 128 + l.val)) + Ideal.exp (zat A b k (((T * 2 + s) * 4 + 1) * 128 + l.val))
        + Ideal.exp (zat A b k (((T * 2 + s) * 4 + 2) * 128 + l.val)) + Ideal.exp (zat A b k (((T * 2 + s) * 4 + 3) * 128 + l.val))))
      (stepM (F := Ideal) X1 X2 X3 X4 X5 s M (ix2 R l)) (stepL (F := Ideal) X1 X2 X3 X4 X5 s M L (ix2 R l)) := by
  have hM := stepM_at h hT s hs M R l b k hR
  rw [stepM_eq] at hM
  rw [stepM_eq, stepL_eq, newSum_at, rows8_at M R l, rows8_at L R l, block_zat h hT s 0 hs (by decide) R l b k hR,
    block_zat h hT s 1 hs (by decide) R l b k hR, block_zat h hT s 2 hs (by decide) R l b k hR, block_zat h hT s 3 hs (by decide) R l b k hR]
  exact Maths.lane_step hl _ _ _ _ hM

/-- One candidate and one block: the block's entry if the candidate lies in it. -/
theorem pick_at (n : BitVec 32) (blk lane : IVec S8x128 32) (z old : S8x128.Idx → EReal) (y : S8x128.Idx) (l : ℕ) (hl : l < 128)
    (h : lane y = BitVec.ofNat 32 l) :
    pick (F := Ideal) n blk lane z old y = if blk y = n then z (ix2 (y 0) ⟨l, hl⟩) else old y := by
  unfold pick
  pointwise
  have e : ∀ l : Fin 128, (Scalar.select (IntOp.cmpi CmpIPredicate.slt (BitVec.ofNat 32 l.val) 0#32) (IntOp.addi (BitVec.ofNat 32 l.val) 128#32)
      (BitVec.ofNat 32 l.val)).toNat % 128 = l.val := by decide
  simp only [h, e ⟨l, hl⟩]
  by_cases hb : blk y = n
  · rw [if_pos hb, hb]
    show Scalar.select (BitVec.ofBool (n == n)) _ _ = _
    rw [beq_self_eq_true]
    rfl
  · rw [if_neg hb]
    show Scalar.select (BitVec.ofBool (blk y == n)) _ _ = _
    rw [beq_false_of_ne hb]
    rfl

theorem blkNo_eq (i : grid0.Coords) (hT : (i 0).val = T) (s q : ℕ) : blkNo i s q = BitVec.ofNat 32 ((T * 2 + s) * 4 + q) := by
  unfold blkNo
  show BitVec.ofNat 32 (i 0).val * 8#32 + BitVec.ofNat 32 (s * 4) + BitVec.ofNat 32 q = _
  rw [hT]
  apply BitVec.eq_of_toNat_eq
  simp only [BitVec.toNat_add, BitVec.toNat_mul, BitVec.toNat_ofNat]
  omega

/-- The running maximum's first value is a number. -/
theorem first_max : ∃ μ : ℝ, Ideal.ofBits .f32 0xFF61B1E6#32 = (μ : EReal) := by
  show ∃ μ : ℝ, Ideal.ieee 8 23 0xFF61B1E6#32 = (μ : EReal)
  unfold Ideal.ieee
  have h1 : (BitVec.extractLsb' 23 8 0xFF61B1E6#32).toNat = 254 := by decide
  simp only [h1]
  rw [if_neg (by decide), if_neg (by decide)]
  exact ⟨_, rfl⟩

theorem fresh_at0 (i : grid0.Coords) (h : atStart i) (w : BitVec 32) (X : S480x128.Idx → EReal) (y : S480x128.Idx) :
    fresh (F := Ideal) i w X y = Ideal.ofBits .f32 w := by
  unfold fresh
  rw [if_pos h]
  pointwise

/-- The row maxima start at minus infinity. -/
theorem bottom : (Ideal.ofBits FTy.f32 4286578688#32 : EReal) = ⊥ := by
  show Ideal.ieee 8 23 4286578688#32 = ⊥
  unfold Ideal.ieee
  have h1 : (BitVec.extractLsb' 23 8 4286578688#32).toNat = 2 ^ 8 - 1 := by decide
  have h2 : (BitVec.extractLsb' 0 23 4286578688#32).toNat = 0 := by decide
  have h3 : (BitVec.extractLsb' (8 + 23) 1 4286578688#32 == 1#1) = true := by decide
  simp only [h1, h2, h3, if_true]

theorem rowMax_at (M : S480x128.Idx → EReal) (R : Fin 480) :
    rowMax (F := Ideal) M (ix2 R 0) = Finset.univ.fold max ⊥ fun l : Fin 128 => M (ix2 R l) := by
  unfold rowMax
  pointwise
  rw [bottom]

theorem logSum_at (M L : S480x128.Idx → EReal) (R : Fin 480) :
    logSum (F := Ideal) M L (ix2 R 0) = rowMax (F := Ideal) M (ix2 R 0)
      + Ideal.log (∑ l : Fin 128, L (ix2 R l) * Ideal.exp (M (ix2 R l) - rowMax (F := Ideal) M (ix2 R 0))) := by
  unfold logSum
  pointwise

end Cert.KernelIdeal.Shaped
-- ==== Proof.KerStep.lean ====
module

public import proofs.«01_k».proof.Proof.KerOps

/-! # What the running arrays hold after some half tiles -/

@[expose] public section

set_option maxRecDepth 16384

noncomputable section

namespace Cert.KernelIdeal.Shaped

open Idealize.ShloMosaic Idealize.ShloMosaic.VecWindow
open Shapes1.Facts₀ Shapes2.Facts₀

variable [Facts]

/-- The sum of exponentials along one lane over the first `n` half tiles. -/
def sumTo (A : Spec.Args) (b : Fin 160) (k : Fin 3) (l n : ℕ) : EReal := ∑ q ∈ Finset.range (n * 4), Ideal.exp (zat A b k (q * 128 + l))

theorem sumTo_succ (A : Spec.Args) (b : Fin 160) (k : Fin 3) (l n : ℕ) : sumTo A b k l (n + 1) = sumTo A b k l n
    + (Ideal.exp (zat A b k ((n * 4 + 0) * 128 + l)) + Ideal.exp (zat A b k ((n * 4 + 1) * 128 + l))
      + Ideal.exp (zat A b k ((n * 4 + 2) * 128 + l)) + Ideal.exp (zat A b k ((n * 4 + 3) * 128 + l))) := by
  unfold sumTo
  rw [show (n + 1) * 4 = n * 4 + 1 + 1 + 1 + 1 by ring, Finset.sum_range_succ, Finset.sum_range_succ, Finset.sum_range_succ, Finset.sum_range_succ]
  simp only [add_zero, add_assoc, Nat.reduceAdd]

/-- All lanes together: the whole row. -/
theorem sumTo_all (A : Spec.Args) (b : Fin 160) (k : Fin 3) : ∑ l : Fin 128, sumTo A b k l.val 128 = ∑ v, Ideal.exp (Spec.z2 A b k v) := by
  unfold sumTo
  have e : ∀ l : Fin 128, ∑ q ∈ Finset.range (128 * 4), Ideal.exp (zat A b k (q * 128 + l.val)) = ∑ q : Fin 512, Ideal.exp (zat A b k (q.val * 128 + l.val)) :=
    fun l => Finset.sum_range _
  simp only [e]
  rw [Finset.sum_comm, ← Fintype.sum_prod_type']
  refine Fintype.sum_equiv (finProdFinEquiv (m := 512) (n := 128)) _ _ fun x => ?_
  unfold zat
  rw [dif_pos (by omega)]
  refine congrArg (fun v => Ideal.exp (Spec.z2 A b k v)) (Fin.ext ?_)
  show x.1.val * 128 + x.2.val = x.2.val + 128 * x.1.val
  ring

/-- The running maxima and sums stand for the first `n` half tiles. -/
def Sums (A : Spec.Args) (n : ℕ) (M L : S480x128.Idx → EReal) : Prop :=
  ∀ (b : Fin 160) (k : Fin 3) (R : Fin 480) (l : Fin 128), R.val = k.val * 160 + b.val → Maths.Lane (sumTo A b k l.val n) (M (ix2 R l)) (L (ix2 R l))

/-- The candidates that lie in the first `n` half tiles have their logits. -/
def Cands (A : Spec.Args) (n : ℕ) (C : S480x128.Idx → EReal) : Prop :=
  ∀ (b : Fin 160) (k : Fin 3) (j : Fin 20) (R : Fin 480) (l : Fin 128), R.val = k.val * 160 + b.val → l.val = j.val →
    (A.cand b k j).val / 128 < n * 4 → C (ix2 R l) = Spec.z2 A b k (A.cand b k j)

/-- The candidates' blocks and lanes, side by side. -/
structure Places (A : Spec.Args) (X6 : S480x256.Idx → BitVec 32) : Prop where
  blk : ∀ (b : Fin 160) (k : Fin 3) (j : Fin 20) (R : Fin 480) (J : Fin 256), R.val = k.val * 160 + b.val → J.val = j.val →
    X6 (ix2 R J) = BitVec.ofNat 32 ((A.cand b k j).val / 128)
  lane : ∀ (b : Fin 160) (k : Fin 3) (j : Fin 20) (R : Fin 480) (J : Fin 256), R.val = k.val * 160 + b.val → J.val = 128 + j.val →
    X6 (ix2 R J) = BitVec.ofNat 32 ((A.cand b k j).val % 128)

variable {A : Spec.Args} {T : ℕ} {X1 : S480x5120.Idx → EReal} {X2 : S5120x1024.Idx → EReal} {X3 : S1x1024.Idx → EReal}
    {X4 : S80x1024.Idx → BitVec 32} {X5 : S160x8.Idx → EReal} {X6 : S480x256.Idx → BitVec 32}

theorem step_sums (h : Blocks A T X1 X2 X3 X4 X5) (hT : T < 64) (s : ℕ) (hs : s < 2) (M L : S480x128.Idx → EReal) (i : Sums A (T * 2 + s) M L) :
    Sums A (T * 2 + s + 1) (stepM (F := Ideal) X1 X2 X3 X4 X5 s M) (stepL (F := Ideal) X1 X2 X3 X4 X5 s M L) := by
  intro b k R l hR
  rw [sumTo_succ]
  exact step_lane h hT s hs M L R l b k hR _ (i b k R l hR)

/-- One more block for one candidate. -/
theorem pick_step (n N : ℕ) (hn : n < 65536) (hN : N < 512) (blk lane : IVec S8x128 32) (z old : S8x128.Idx → EReal) (y : S8x128.Idx) (b : Fin 160) (k : Fin 3)
    (hb : blk y = BitVec.ofNat 32 (n / 128)) (hl : lane y = BitVec.ofNat 32 (n % 128))
    (hz : z (ix2 (y 0) ⟨n % 128, Nat.mod_lt _ (by decide)⟩) = zat A b k (N * 128 + n % 128))
    (hold : n / 128 < N → old y = zat A b k n) (hlt : n / 128 < N + 1) :
    pick (F := Ideal) (BitVec.ofNat 32 N) blk lane z old y = zat A b k n := by
  rw [pick_at _ _ _ _ _ _ (n % 128) (Nat.mod_lt _ (by decide)) hl, hb]
  by_cases e : n / 128 = N
  · rw [if_pos (by rw [e]), hz]
    exact congrArg (fun n => zat A b k n) (by omega)
  · rw [if_neg, hold (by omega)]
    intro e'
    have := congrArg BitVec.toNat e'
    rw [BitVec.toNat_ofNat, BitVec.toNat_ofNat] at this
    omega

theorem cand8_at (X : S480x256.Idx → BitVec 32) (R : Fin 480) (l : Fin 128) (p : ℕ) (hp : p < 2) (J : Fin 256) (hJ : J.val = p * 128 + l.val) :
    cand8 (F := Ideal) X (R.val / 8) p (at8 R.val l.val) = X (ix2 R J) := by
  refine Eq.trans ?_ (window2 (m := 8) (n := 128) X (R.val / 8 % 60 * 8) (p % 2 * 128) (inb2 (rows_le _) (by omega)) (at8 R.val l.val) R J
    (show R.val = R.val / 8 % 60 * 8 + R.val % 8 by omega) (show J.val = p % 2 * 128 + l.val % 128 by omega))
  unfold cand8
  pointwise

theorem stepC_eq (i : grid0.Coords) (s : ℕ) (C : S480x128.Idx → EReal) (R : Fin 480) (l : Fin 128) : stepC (F := Ideal) i X1 X2 X3 X4 X5 X6 s C (ix2 R l)
    = pick (F := Ideal) (blkNo i s 3) (cand8 (F := Ideal) X6 (R.val / 8) 0) (cand8 (F := Ideal) X6 (R.val / 8) 1) (logits (F := Ideal) X1 X2 X3 X4 X5 s (grp (R.val / 8)) (R.val / 8 / 20) 3)
      (pick (F := Ideal) (blkNo i s 2) (cand8 (F := Ideal) X6 (R.val / 8) 0) (cand8 (F := Ideal) X6 (R.val / 8) 1) (logits (F := Ideal) X1 X2 X3 X4 X5 s (grp (R.val / 8)) (R.val / 8 / 20) 2)
        (pick (F := Ideal) (blkNo i s 1) (cand8 (F := Ideal) X6 (R.val / 8) 0) (cand8 (F := Ideal) X6 (R.val / 8) 1) (logits (F := Ideal) X1 X2 X3 X4 X5 s (grp (R.val / 8)) (R.val / 8 / 20) 1)
          (pick (F := Ideal) (blkNo i s 0) (cand8 (F := Ideal) X6 (R.val / 8) 0) (cand8 (F := Ideal) X6 (R.val / 8) 1) (logits (F := Ideal) X1 X2 X3 X4 X5 s (grp (R.val / 8)) (R.val / 8 / 20) 0)
            (rows8 (F := Ideal) C (R.val / 8))))) (at8 R.val l.val) := by
  unfold stepC
  rw [blocks_at]
  generalize pick (F := Ideal) (blkNo i s 3) _ _ _ _ = Z
  pointwise

theorem step_cands (h : Blocks A T X1 X2 X3 X4 X5) (h6 : Places A X6) (hT : T < 64) (i : grid0.Coords) (hi : (i 0).val = T) (s : ℕ) (hs : s < 2)
    (C : S480x128.Idx → EReal) (hC : Cands A (T * 2 + s) C) : Cands A (T * 2 + s + 1) (stepC (F := Ideal) i X1 X2 X3 X4 X5 X6 s C) := by
  intro b k j R l hR hl hlt
  have hn := (A.cand b k j).isLt
  have ez : zat A b k (A.cand b k j).val = Spec.z2 A b k (A.cand b k j) := by unfold zat; rw [dif_pos hn]
  have hz : ∀ q, q < 4 → logits (F := Ideal) X1 X2 X3 X4 X5 s (grp (R.val / 8)) (R.val / 8 / 20) q
      (ix2 (at8 R.val l.val 0) ⟨(A.cand b k j).val % 128, Nat.mod_lt _ (by decide)⟩) = zat A b k (((T * 2 + s) * 4 + q) * 128 + (A.cand b k j).val % 128) := by
    intro q hq
    refine Eq.trans (congrArg _ ?_) (block_zat h hT s q hs hq R ⟨(A.cand b k j).val % 128, Nat.mod_lt _ (by decide)⟩ b k hR)
    funext d
    match d with
    | 0 => rfl
    | 1 => exact Fin.ext (Nat.mod_mod _ _).symm
  have hb := (cand8_at X6 R l 0 (by decide) ⟨l.val, by omega⟩ (by simp)).trans (h6.blk b k j R _ hR hl)
  have hla := (cand8_at X6 R l 1 (by decide) ⟨128 + l.val, by omega⟩ (by simp)).trans (h6.lane b k j R _ hR (by simp only; omega))
  rw [stepC_eq, ← ez, blkNo_eq i hi, blkNo_eq i hi, blkNo_eq i hi, blkNo_eq i hi]
  refine pick_step _ _ hn (by omega) _ _ _ _ _ b k hb hla (hz 3 (by decide)) (fun h3 => ?_) (by omega)
  refine pick_step _ _ hn (by omega) _ _ _ _ _ b k hb hla (hz 2 (by decide)) (fun h2 => ?_) (by omega)
  refine pick_step _ _ hn (by omega) _ _ _ _ _ b k hb hla (hz 1 (by decide)) (fun h1 => ?_) (by omega)
  refine pick_step _ _ hn (by omega) _ _ _ _ _ b k hb hla (hz 0 (by decide)) (fun h0 => ?_) (by omega)
  rw [rows8_at, ez]
  exact hC b k j R l hR hl (by omega)

/-- One point: two half tiles. -/
theorem next_sums (h : Blocks A T X1 X2 X3 X4 X5) (hT : T < 64) (i : grid0.Coords) (M L : S480x128.Idx → EReal)
    (hs : Sums A (T * 2) (fresh (F := Ideal) i 0xFF61B1E6#32 M) (fresh (F := Ideal) i 0x00000000#32 L)) :
    Sums A (T * 2 + 2) (nextM (F := Ideal) i X1 X2 X3 X4 X5 M) (nextL (F := Ideal) i X1 X2 X3 X4 X5 M L) := by
  unfold nextM nextL
  generalize fresh (F := Ideal) i 0xFF61B1E6#32 M = M' at *
  generalize fresh (F := Ideal) i 0x00000000#32 L = L' at *
  have s0 : Sums A (T * 2 + 1) (stepM (F := Ideal) X1 X2 X3 X4 X5 0 M') (stepL (F := Ideal) X1 X2 X3 X4 X5 0 M' L') := step_sums h hT 0 (by decide) M' L' hs
  generalize stepM (F := Ideal) X1 X2 X3 X4 X5 0 M' = M'' at *
  generalize stepL (F := Ideal) X1 X2 X3 X4 X5 0 M' L' = L'' at *
  exact step_sums h hT 1 (by decide) M'' L'' s0

theorem next_cands (h : Blocks A T X1 X2 X3 X4 X5) (h6 : Places A X6) (hT : T < 64) (i : grid0.Coords) (hi : (i 0).val = T) (C : S480x128.Idx → EReal)
    (hc : Cands A (T * 2) (fresh (F := Ideal) i 0x00000000#32 C)) :
    Cands A (T * 2 + 2) (nextC (F := Ideal) i X1 X2 X3 X4 X5 X6 C) := by
  unfold nextC
  generalize fresh (F := Ideal) i 0x00000000#32 C = C' at *
  have c0 : Cands A (T * 2 + 1) (stepC (F := Ideal) i X1 X2 X3 X4 X5 X6 0 C') := step_cands h h6 hT i hi 0 (by decide) C' hc
  generalize stepC (F := Ideal) i X1 X2 X3 X4 X5 X6 0 C' = C'' at *
  exact step_cands h h6 hT i hi 1 (by decide) C'' c0

/-- Before the first half tile. -/
theorem start_sums (i : grid0.Coords) (h : atStart i) (M L : S480x128.Idx → EReal) :
    Sums A 0 (fresh (F := Ideal) i 0xFF61B1E6#32 M) (fresh (F := Ideal) i 0x00000000#32 L) := by
  intro b k R l hR
  rw [fresh_at0 i h, fresh_at0 i h, zero_word]
  obtain ⟨μ, e⟩ := first_max
  rw [e]
  have : sumTo A b k l.val 0 = 0 := by unfold sumTo; simp
  rw [this]
  exact Maths.lane_start μ

theorem start_cands (C : S480x128.Idx → EReal) : Cands A 0 C := by
  intro b k j R l hR hl hlt
  omega

/-- After the last half tile: the logarithm of the sum of exponentials. -/
theorem close_sums (M L : S480x128.Idx → EReal) (h : Sums A 128 M L) (b : Fin 160) (k : Fin 3) (R : Fin 480) (hR : R.val = k.val * 160 + b.val) :
    logSum (F := Ideal) M L (ix2 R 0) = Spec.lse A b k := by
  rw [logSum_at]
  unfold Spec.lse
  rw [← sumTo_all]
  exact Maths.lanes_close (by decide) (fun l : Fin 128 => sumTo A b k l.val 128) (fun l => M (ix2 R l)) (fun l => L (ix2 R l)) (fun l => h b k R l hR) (rowMax_at M R)

/-- And the candidates' log-probabilities. -/
theorem close_cands (M L C : S480x128.Idx → EReal) (h : Sums A 128 M L) (hC : Cands A 128 C) (b : Fin 160) (k : Fin 3) (j : Fin 20)
    (R : Fin 480) (hR : R.val = k.val * 160 + b.val) (l : Fin 128) (hl : l.val = j.val) :
    subf (F := Ideal) (φ := .f32) C (broadcastTo S480x128 (logSum (F := Ideal) M L) broadcasts_S480x1_S480x128) (ix2 R l) = Spec.logp A b k j := by
  have e : subf (F := Ideal) (φ := .f32) C (broadcastTo S480x128 (logSum (F := Ideal) M L) broadcasts_S480x1_S480x128) (ix2 R l)
      = C (ix2 R l) - logSum (F := Ideal) M L (ix2 R 0) := by pointwise
  have := (A.cand b k j).isLt
  rw [e, close_sums M L h b k R hR, hC b k j R l hR hl (by omega)]
  rfl

end Cert.KernelIdeal.Shaped
-- ==== Proof.KerHost.lean ====
module

public import proofs.«01_k».proof.Proof.Gen.KernelIdeal.Launch
public import Idealize.ShloMosaic.Lib.StableHlo.ReadAt
public import proofs.«01_k».proof.Proof.Spec

/-! # The kernel's host operations, read at an index -/

@[expose] public section

set_option maxRecDepth 16384

noncomputable section

namespace Cert.KernelIdeal.Values

open Cert.KernelIdeal.Gen
open Idealize.ShloMosaic Idealize.ShloMosaic.StableHlo

variable (V : Valuation τ sig (Elt Ideal))

/-- The rows, one for each draft position and sequence. -/
theorem v1_at (x : Fin 160 → Fin 3 → Fin 5120 → EReal) (hx : ∀ b k i, V (Proc.devRef .tc main_arg0) (ix3 b k i) = x b k i)
    (b : Fin 160) (k : Fin 3) (i : Fin 5120) (R : Fin 480) (hR : R.val = k.val * 160 + b.val) :
    after hostOps0 V (Proc.devRef .tc main_v1) (ix2 R i) = x b k i := by
  rw [← hx]
  after_reads_at
  exact congrArg (V _) (congrArg₂ (fun b k => ix3 b k i) (Fin.ext (by simp only; omega)) (Fin.ext (by simp only; omega)))

theorem v27_at (v : Fin 65536) : after hostOps0_8 V (Proc.devRef .tc main_v27) (ix2 0 v) = (V (Proc.devRef .tc main_arg3) (ix1 v) : EReal) := by
  after_reads_at

/-- The parameter columns. -/
theorem v19_at (b : Fin 160) (p : Fin 8) : after hostOps0 V (Proc.devRef .tc main_v19) (ix2 b p)
    = (if h : p.val < 4 then (if p.val = 0 then V (Proc.devRef .tc main_arg5) (ix1 b) else if p.val = 1 then V (Proc.devRef .tc main_arg6) (ix1 b)
        else if p.val = 2 then V (Proc.devRef .tc main_arg7) (ix1 b) else Ideal.div 1 (V (Proc.devRef .tc main_arg7) (ix1 b) : EReal))
      else if h : p.val < 7 then V (Proc.devRef .tc main_arg1) (ix2 b ⟨p.val - 4, by omega⟩) else 0 : EReal) := by
  fin_cases p
  · after_reads_at
    after_reads_at
  · after_reads_at
    after_reads_at
  · after_reads_at
    after_reads_at
  · after_reads_at
    after_reads_at
  · after_reads_at
    after_reads_at
  · after_reads_at
    after_reads_at
  · after_reads_at
    after_reads_at
  · after_reads_at
    after_reads_at

theorem v21_at (b : Fin 160) (k : Fin 3) (j : Fin 20) (R : Fin 480) (hR : R.val = k.val * 160 + b.val) :
    after hostOps0 V (Proc.devRef .tc main_v21) (ix2 R j) = V (Proc.devRef .tc main_arg8) (ix3 b k j) := by
  after_reads_at
  exact congrArg (V _) (congrArg₂ (fun b k => ix3 b k j) (Fin.ext (by simp only; omega)) (Fin.ext (by simp only; omega)))

theorem word_toNat (n : ℕ) (hn : n < 65536) : (BitVec.ofNat 32 n).toNat = n := by
  rw [BitVec.toNat_ofNat]; omega

theorem word_inj (n k : ℕ) (hn : n < 65536) (hk : k < 65536) (h : BitVec.ofNat 32 n = BitVec.ofNat 32 k) : n = k := by
  rw [← word_toNat n hn, ← word_toNat k hk, h]

theorem msb_word (n : ℕ) (hn : n < 65536) : (BitVec.ofNat 32 n).msb = false := by
  rw [BitVec.msb_eq_false_iff_two_mul_lt, word_toNat n hn]; omega

/-- The quotient of a small word by 128. -/
theorem divsi_word (n : ℕ) (hn : n < 65536) : IntOp.divsi ArithUnit.host (BitVec.ofNat 32 n) 128#32 = BitVec.ofNat 32 (n / 128) := by
  unfold IntOp.divsi
  rw [if_neg (by unfold IntOp.SDivCorner; simp)]
  unfold BitVec.sdiv
  rw [msb_word n hn]
  apply BitVec.eq_of_toNat_eq
  show (BitVec.ofNat 32 n / 128#32).toNat = _
  rw [BitVec.toNat_udiv, word_toNat n hn, word_toNat (n / 128) (by omega)]
  rfl

/-- Its remainder. -/
theorem remsi_word (n : ℕ) (hn : n < 65536) : IntOp.remsi ArithUnit.host (BitVec.ofNat 32 n) 128#32 = BitVec.ofNat 32 (n % 128) := by
  unfold IntOp.remsi
  rw [if_neg (by unfold IntOp.SDivCorner; simp)]
  unfold BitVec.srem
  rw [msb_word n hn]
  apply BitVec.eq_of_toNat_eq
  show (BitVec.ofNat 32 n % 128#32).toNat = _
  rw [BitVec.toNat_umod, word_toNat n hn, word_toNat (n % 128) (by omega)]
  rfl

theorem select_off (a : BitVec 1) (ha : a = 0#1) (z : BitVec 1) (x y : BitVec 32) : Scalar.select (IntOp.andi a z) x y = y := by
  have h : ∀ a z : BitVec 1, a = 0#1 → IntOp.andi a z = 0#1 := by decide
  rw [h a z ha]
  rfl

/-- The block of a candidate, as the floor division computes it. -/
theorem block_word (n : ℕ) (hn : n < 65536) :
    Scalar.select (IntOp.andi (IntOp.cmpi CmpIPredicate.ne (if BitVec.ofNat 32 n = 0 then (0 : BitVec 32) else if BitVec.msb (BitVec.ofNat 32 n) = true then -1 else 1)
        (if 128#32 = 0 then (0 : BitVec 32) else if BitVec.msb 128#32 = true then -1 else 1))
        (IntOp.cmpi CmpIPredicate.ne (IntOp.remsi ArithUnit.host (BitVec.ofNat 32 n) 128#32) 0#32))
      (IntOp.subi (IntOp.divsi ArithUnit.host (BitVec.ofNat 32 n) 128#32) 1#32) (IntOp.divsi ArithUnit.host (BitVec.ofNat 32 n) 128#32)
      = BitVec.ofNat 32 (n / 128) := by
  rw [divsi_word n hn, remsi_word n hn]
  by_cases h0 : n = 0
  · subst h0; decide
  · have e : ¬ BitVec.ofNat 32 n = 0 := fun h => h0 (word_inj n 0 hn (by decide) h)
    simp only [e, if_false, msb_word n hn]
    exact select_off _ (by decide) _ _ _

/-- Its lane, as the remainder computes it. -/
theorem lane_word (n : ℕ) (hn : n < 65536) :
    Scalar.select (IntOp.andi (IntOp.cmpi CmpIPredicate.ne (IntOp.cmpi CmpIPredicate.slt (IntOp.remsi ArithUnit.host (BitVec.ofNat 32 n)
            (Scalar.select (IntOp.cmpi CmpIPredicate.eq 128#32 0#32) (1#32) 128#32)) 0#32)
          (IntOp.cmpi CmpIPredicate.slt (Scalar.select (IntOp.cmpi CmpIPredicate.eq 128#32 0#32) (1#32) 128#32) 0#32))
        (IntOp.cmpi CmpIPredicate.ne (IntOp.remsi ArithUnit.host (BitVec.ofNat 32 n) (Scalar.select (IntOp.cmpi CmpIPredicate.eq 128#32 0#32) (1#32) 128#32)) 0#32))
      (IntOp.addi (IntOp.remsi ArithUnit.host (BitVec.ofNat 32 n) (Scalar.select (IntOp.cmpi CmpIPredicate.eq 128#32 0#32) (1#32) 128#32))
        (Scalar.select (IntOp.cmpi CmpIPredicate.eq 128#32 0#32) (1#32) 128#32))
      (IntOp.remsi ArithUnit.host (BitVec.ofNat 32 n) (Scalar.select (IntOp.cmpi CmpIPredicate.eq 128#32 0#32) (1#32) 128#32))
      = BitVec.ofNat 32 (n % 128) := by
  rw [show Scalar.select (IntOp.cmpi CmpIPredicate.eq 128#32 0#32) (1#32) 128#32 = 128#32 by decide, remsi_word n hn]
  have h : IntOp.cmpi CmpIPredicate.slt (BitVec.ofNat 32 (n % 128)) 0#32 = 0#1 := by
    show BitVec.ofBool (BitVec.slt _ _) = _
    rw [BitVec.slt_zero_eq_msb, msb_word _ (by omega)]
    rfl
  rw [h]
  exact select_off _ (by decide) _ _ _

theorem v22_at (R : Fin 480) (j : Fin 20) (n : ℕ) (hn : n < 65536) (h : V (Proc.devRef .tc main_v21) (ix2 R j) = BitVec.ofNat 32 n)
    (hc : ∀ y, V (Proc.devRef .tc main_c) y = 128#32) :
    after hostOps0_1 V (Proc.devRef .tc main_v22) (ix2 R j) = BitVec.ofNat 32 (n / 128) := by
  after_reads_at
  rw [h]
  simp only [id, hc]
  exact block_word n hn

theorem v24_at (R : Fin 480) (j : Fin 20) (n : ℕ) (hn : n < 65536) (h : V (Proc.devRef .tc main_v21) (ix2 R j) = BitVec.ofNat 32 n)
    (hc : ∀ y, V (Proc.devRef .tc main_c_2) y = 128#32) :
    after hostOps0_5 V (Proc.devRef .tc main_v24) (ix2 R j) = BitVec.ofNat 32 (n % 128) := by
  after_reads_at
  rw [h]
  simp only [id, hc]
  exact lane_word n hn

theorem v23_at (R : Fin 480) (j : Fin 20) (J : Fin 128) (hJ : J.val = j.val) :
    after hostOps0_3 V (Proc.devRef .tc main_v23) (ix2 R J) = V (Proc.devRef .tc main_v22) (ix2 R j) := by
  after_reads_at
  rw [dif_pos (by omega)]
  exact congrArg (V _) (congrArg _ (Fin.ext hJ))

theorem v26_at (R : Fin 480) (j : Fin 128) (J : Fin 256) (hJ : J.val = j.val) :
    after hostOps0_8 V (Proc.devRef .tc main_v26) (ix2 R J) = V (Proc.devRef .tc main_v23) (ix2 R j) := by
  after_reads_at
  rw [dif_pos (by omega)]
  exact congrArg (V _) (congrArg _ (Fin.ext hJ))

theorem v26_at' (R : Fin 480) (j : Fin 128) (J : Fin 256) (hJ : J.val = 128 + j.val) :
    after hostOps0_8 V (Proc.devRef .tc main_v26) (ix2 R J) = V (Proc.devRef .tc main_v25) (ix2 R j) := by
  after_reads_at
  rw [dif_neg (by omega)]
  exact congrArg (V _) (congrArg _ (Fin.ext (by simp only; omega)))

theorem v25_at (R : Fin 480) (j : Fin 20) (J : Fin 128) (hJ : J.val = j.val) :
    after hostOps0_7 V (Proc.devRef .tc main_v25) (ix2 R J) = V (Proc.devRef .tc main_v24) (ix2 R j) := by
  after_reads_at
  rw [dif_pos (by omega)]
  exact congrArg (V _) (congrArg _ (Fin.ext hJ))

theorem v30_at (b : Fin 160) (k : Fin 3) (R : Fin 480) (hR : R.val = k.val * 160 + b.val) :
    after hostOps1 V (Proc.devRef .tc main_v30) (ix2 b k) = (V (Proc.devRef .tc main_v28_1) (ix2 R 0) : EReal) := by
  after_reads_at
  exact congrArg (V _) (congrArg (fun r => ix2 r 0) (Fin.ext hR.symm))

theorem v33_at (b : Fin 160) (k : Fin 3) (j : Fin 20) (R : Fin 480) (hR : R.val = k.val * 160 + b.val) (J : Fin 128) (hJ : J.val = j.val) :
    after hostOps1 V (Proc.devRef .tc main_v33) (ix3 b k j) = (V (Proc.devRef .tc main_v28_2) (ix2 R J) : EReal) := by
  after_reads_at
  exact congrArg (V _) (congrArg₂ ix2 (Fin.ext hR.symm) (Fin.ext hJ.symm))

theorem v35_at (b : Fin 160) (k : Fin 3) (v : Fin 65536) (R : Fin 480) (hR : R.val = k.val * 160 + b.val) :
    after hostOps1 V (Proc.devRef .tc main_v35) (ix3 b k v) = (V (Proc.devRef .tc main_v28_0) (ix2 R v) : EReal) := by
  after_reads_at
  exact congrArg (V _) (congrArg (fun r => ix2 r v) (Fin.ext hR.symm))

/-- What the stretches after the first leave alone. -/
theorem keep_v1 (y : S480x5120.Idx) : after hostOps0_8 (after hostOps0_7 (after hostOps0_6 (after hostOps0_5 (after hostOps0_4 (after hostOps0_3
    (after hostOps0_2 (after hostOps0_1 V))))))) (Proc.devRef .tc main_v1) y = (V (Proc.devRef .tc main_v1) y : EReal) := by
  after_reads_at

theorem keep_v19 (y : S160x8.Idx) : after hostOps0_8 (after hostOps0_7 (after hostOps0_6 (after hostOps0_5 (after hostOps0_4 (after hostOps0_3
    (after hostOps0_2 (after hostOps0_1 V))))))) (Proc.devRef .tc main_v19) y = (V (Proc.devRef .tc main_v19) y : EReal) := by
  after_reads_at

theorem keep_arg3 (y : S65536.Idx) : after hostOps0_7 (after hostOps0_6 (after hostOps0_5 (after hostOps0_4 (after hostOps0_3
    (after hostOps0_2 (after hostOps0_1 (after hostOps0 V))))))) (Proc.devRef .tc main_arg3) y = (V (Proc.devRef .tc main_arg3) y : EReal) := by
  after_reads_at

theorem keep_v23 (y : S480x128.Idx) : after hostOps0_7 (after hostOps0_6 (after hostOps0_5 (after hostOps0_4 V)))
    (Proc.devRef .tc main_v23) y = (V (Proc.devRef .tc main_v23) y : BitVec 32) := by
  after_reads_at

theorem keep_v22 (y : S480x20.Idx) : after hostOps0_2 V (Proc.devRef .tc main_v22) y = (V (Proc.devRef .tc main_v22) y : BitVec 32) := by
  after_reads_at

theorem keep_v24 (y : S480x20.Idx) : after hostOps0_6 V (Proc.devRef .tc main_v24) y = (V (Proc.devRef .tc main_v24) y : BitVec 32) := by
  after_reads_at

theorem keep_v21 (y : S480x20.Idx) : after hostOps0_4 (after hostOps0_3 (after hostOps0_2 (after hostOps0_1 V)))
    (Proc.devRef .tc main_v21) y = (V (Proc.devRef .tc main_v21) y : BitVec 32) := by
  after_reads_at

/-- The candidates' blocks and lanes, as the region finds them. -/
theorem blk_at (R : Fin 480) (j : Fin 20) (J : Fin 256) (hJ : J.val = j.val) (n : ℕ) (hn : n < 65536)
    (h : after hostOps0 V (Proc.devRef .tc main_v21) (ix2 R j) = BitVec.ofNat 32 n) :
    after hostOps0_8 (after hostOps0_7 (after hostOps0_6 (after hostOps0_5 (after hostOps0_4 (after hostOps0_3
    (after hostOps0_2 (after hostOps0_1 (after hostOps0 V)))))))) (Proc.devRef .tc main_v26) (ix2 R J) = BitVec.ofNat 32 (n / 128) := by
  rw [v26_at _ R ⟨j.val, by omega⟩ J hJ, keep_v23, v23_at _ R j ⟨j.val, by omega⟩ rfl, keep_v22]
  exact v22_at _ R j n hn h fun y => by after_reads_at

theorem lane_at (R : Fin 480) (j : Fin 20) (J : Fin 256) (hJ : J.val = 128 + j.val) (n : ℕ) (hn : n < 65536)
    (h : after hostOps0 V (Proc.devRef .tc main_v21) (ix2 R j) = BitVec.ofNat 32 n) :
    after hostOps0_8 (after hostOps0_7 (after hostOps0_6 (after hostOps0_5 (after hostOps0_4 (after hostOps0_3
    (after hostOps0_2 (after hostOps0_1 (after hostOps0 V)))))))) (Proc.devRef .tc main_v26) (ix2 R J) = BitVec.ofNat 32 (n % 128) := by
  rw [v26_at' _ R ⟨j.val, by omega⟩ J hJ, v25_at _ R j ⟨j.val, by omega⟩ rfl, keep_v24]
  exact v24_at _ R j n hn ((keep_v21 _ _).trans h) fun y => by after_reads_at

end Cert.KernelIdeal.Values
-- ==== Proof.KerValue.lean ====
module

public import proofs.«01_k».proof.Proof.Run
public import proofs.«01_k».proof.Proof.KerStep
public import proofs.«01_k».proof.Proof.KerHost
public import Idealize.ShloMosaic.Lib.Pipeline.ValueKit.Geometry
public import Idealize.ShloMosaic.Lib.Pipeline.Value

/-! # What the kernel ends with

The kernel's three results, as the specification has them. -/

@[expose] public section

set_option maxRecDepth 16384

noncomputable section

namespace Cert.KernelIdeal.Values

open Cert.KernelIdeal.Gen Cert.KernelIdeal.Shaped
open Idealize.ShloMosaic Idealize.ShloMosaic.TcCoe Idealize.ShloMosaic.StableHlo
open Idealize.SL.Sem
open Idealize.ShloMosaic.Pipeline (Dat)

variable {m : (ℓ : Loc nD τ sig) → Buf (Elt Ideal) ℓ} {A : Spec.Args}

/-- The argument arrays of a device hold the arguments. -/
def Holds (m : (ℓ : Loc nD τ sig) → Buf (Elt Ideal) ℓ) (A : Spec.Args) (c : Dev nD) : Prop :=
  Spec.Given A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- The device's buffers at launch. -/
abbrev mem (m : (ℓ : Loc nD τ sig) → Buf (Elt Ideal) ℓ) (c : Dev nD) : Valuation τ sig (Elt Ideal) := fun b => m ⟨c, b⟩

theorem V0_eq (c : Dev nD) : V0 m c = after hostOps0_8 (after hostOps0_7 (after hostOps0_6 (after hostOps0_5 (after hostOps0_4 (after hostOps0_3
    (after hostOps0_2 (after hostOps0_1 (after hostOps0 (mem m c))))))))) := by
  unfold V0
  simp only [List.flatten_cons, List.flatten_nil, List.append_nil, after_append]

variable {c : Dev nD} (h : Holds m A c)
include h

theorem entry_x (b : Fin 160) (k : Fin 3) (i : Fin 5120) (R : Fin 480) (hR : R.val = k.val * 160 + b.val) :
    V0 m c (Proc.devRef .tc main_v1) (ix2 R i) = A.x b k i := by
  rw [V0_eq, keep_v1]
  exact v1_at _ A.x h.x b k i R hR

theorem entry_w (i : Fin 5120) (v : Fin 65536) : V0 m c (Proc.devRef .tc main_arg2) (ix2 i v) = A.w i v :=
  (congrFun (V_main_arg2 m c) _).trans (h.w i v)

theorem entry_ws (v : Fin 65536) : V0 m c (Proc.devRef .tc main_v27) (ix2 0 v) = A.ws v := by
  rw [V0_eq, v27_at, keep_arg3]
  refine Eq.trans ?_ (h.ws v)
  after_reads_at

theorem entry_cnt (b : Fin 80) (v : Fin 65536) : V0 m c (Proc.devRef .tc main_arg4) (ix2 b v) = A.cnt b v :=
  (congrFun (V_main_arg4 m c) _).trans (h.cnt b v)

theorem entry_par (b : Fin 160) (p : Fin 8) : V0 m c (Proc.devRef .tc main_v19) (ix2 b p)
    = (if h : p.val < 4 then (if p.val = 0 then (A.p b : EReal) else if p.val = 1 then A.f b
        else if p.val = 2 then A.r b else Ideal.div 1 (A.r b))
      else if h : p.val < 7 then A.xs b ⟨p.val - 4, by omega⟩ else 0 : EReal) := by
  rw [V0_eq, keep_v19, v19_at]
  have e5 : mem m c (Proc.devRef .tc main_arg5) (ix1 b) = (A.p b : EReal) := h.p b
  have e6 : mem m c (Proc.devRef .tc main_arg6) (ix1 b) = A.f b := h.f b
  have e7 : mem m c (Proc.devRef .tc main_arg7) (ix1 b) = A.r b := h.r b
  have e1 : ∀ k, mem m c (Proc.devRef .tc main_arg1) (ix2 b k) = A.xs b k := h.xs b
  simp only [e5, e6, e7, e1]

theorem entry_blk (b : Fin 160) (k : Fin 3) (j : Fin 20) (R : Fin 480) (hR : R.val = k.val * 160 + b.val) (J : Fin 256) (hJ : J.val = j.val) :
    V0 m c (Proc.devRef .tc main_v26) (ix2 R J) = BitVec.ofNat 32 ((A.cand b k j).val / 128) := by
  rw [V0_eq]
  exact blk_at _ R j J hJ _ (A.cand b k j).isLt ((v21_at _ b k j R hR).trans (h.cand b k j))

theorem entry_lane (b : Fin 160) (k : Fin 3) (j : Fin 20) (R : Fin 480) (hR : R.val = k.val * 160 + b.val) (J : Fin 256) (hJ : J.val = 128 + j.val) :
    V0 m c (Proc.devRef .tc main_v26) (ix2 R J) = BitVec.ofNat 32 ((A.cand b k j).val % 128) := by
  rw [V0_eq]
  exact lane_at _ R j J hJ _ (A.cand b k j).isLt ((v21_at _ b k j R hR).trans (h.cand b k j))

omit h

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, t.val] := (by decide +kernel : ∀ t : Fin grid0.N, _)

theorem in0_at (t : Fin cfg0.N) (R : Fin 480) (i : Fin 5120) : in0 m c t (ix2 R i) = (V0 m c (Proc.devRef .tc main_v1) (ix2 R i) : EReal) := by
  unfold in0
  blk_simp [iblk]
  refine congrArg (V0 m c (Proc.devRef .tc main_v1)) ?_
  blk_ext [idx0]

theorem in1_at (t : Fin cfg0.N) (i : Fin 5120) (C : Fin 1024) (v : Fin 65536) (hv : v.val = t.val * 1024 + C.val) :
    in1 m c t (ix2 i C) = (V0 m c (Proc.devRef .tc main_arg2) (ix2 i v) : EReal) := by
  unfold in1
  blk_simp [iblk]
  refine congrArg (V0 m c (Proc.devRef .tc main_arg2)) ?_
  blk_ext [idx1]

theorem in2_at (t : Fin cfg0.N) (C : Fin 1024) (v : Fin 65536) (hv : v.val = t.val * 1024 + C.val) :
    in2 m c t (ix2 0 C) = (V0 m c (Proc.devRef .tc main_v27) (ix2 0 v) : EReal) := by
  unfold in2
  blk_simp [iblk]
  refine congrArg (V0 m c (Proc.devRef .tc main_v27)) ?_
  blk_ext [idx2]

theorem in3_at (t : Fin cfg0.N) (b : Fin 80) (C : Fin 1024) (v : Fin 65536) (hv : v.val = t.val * 1024 + C.val) :
    in3 m c t (ix2 b C) = (V0 m c (Proc.devRef .tc main_arg4) (ix2 b v) : BitVec 32) := by
  unfold in3
  blk_simp [iblk]
  refine congrArg (V0 m c (Proc.devRef .tc main_arg4)) ?_
  blk_ext [idx3]

theorem in4_at (t : Fin cfg0.N) (b : Fin 160) (p : Fin 8) : in4 m c t (ix2 b p) = (V0 m c (Proc.devRef .tc main_v19) (ix2 b p) : EReal) := by
  unfold in4
  blk_simp [iblk]
  refine congrArg (V0 m c (Proc.devRef .tc main_v19)) ?_
  blk_ext [idx4]

theorem in5_at (t : Fin cfg0.N) (R : Fin 480) (J : Fin 256) : in5 m c t (ix2 R J) = (V0 m c (Proc.devRef .tc main_v26) (ix2 R J) : BitVec 32) := by
  unfold in5
  blk_simp [iblk]
  refine congrArg (V0 m c (Proc.devRef .tc main_v26)) ?_
  blk_ext [idx5]

/-- The input blocks of a point hold the blocks of the arguments. -/
theorem inputs (h : Holds m A c) (t : Fin cfg0.N) : Blocks A t.val (in0 m c t) (in1 m c t) (in2 m c t) (in3 m c t) (in4 m c t) where
  x b k i R hR := (in0_at t R i).trans (entry_x h b k i R hR)
  w i C v hv := (in1_at t i C v hv).trans (entry_w h i v)
  ws C v hv := (in2_at t C v hv).trans (entry_ws h v)
  cnt b C v hv := (in3_at t b C v hv).trans (entry_cnt h b v)
  p b := (in4_at t b 0).trans (entry_par h b 0)
  f b := (in4_at t b 1).trans (entry_par h b 1)
  r b := (in4_at t b 2).trans (entry_par h b 2)
  v b := (in4_at t b 3).trans (entry_par h b 3)
  xs b k P hP := by
    refine (in4_at t b P).trans ((entry_par h b P).trans ?_)
    rw [dif_neg (by omega), dif_pos (by omega)]
    exact congrArg (fun k => A.xs b k) (Fin.ext (by simp only; omega))

theorem places (h : Holds m A c) (t : Fin cfg0.N) : Places A (in5 m c t) where
  blk b k j R J hR hJ := (in5_at t R J).trans (entry_blk h b k j R hR J hJ)
  lane b k j R J hR hJ := (in5_at t R J).trans (entry_lane h b k j R hR J hJ)

theorem coord : ∀ t : Fin cfg0.N, (grid0.coords t 0).val = t.val := (by decide +kernel : ∀ t : Fin grid0.N, _)

/-- One point. -/
theorem point (h : Holds m A c) (t : Fin cfg0.N) (M L C : S480x128.Idx → EReal)
    (hs : Sums A (t.val * 2) (fresh (F := Ideal) (grid0.coords t) 0xFF61B1E6#32 M) (fresh (F := Ideal) (grid0.coords t) 0x00000000#32 L))
    (hc : Cands A (t.val * 2) (fresh (F := Ideal) (grid0.coords t) 0x00000000#32 C)) :
    Sums A (t.val * 2 + 2) (nextM (F := Ideal) (grid0.coords t) (in0 m c t) (in1 m c t) (in2 m c t) (in3 m c t) (in4 m c t) M)
        (nextL (F := Ideal) (grid0.coords t) (in0 m c t) (in1 m c t) (in2 m c t) (in3 m c t) (in4 m c t) M L)
      ∧ Cands A (t.val * 2 + 2) (nextC (F := Ideal) (grid0.coords t) (in0 m c t) (in1 m c t) (in2 m c t) (in3 m c t) (in4 m c t) (in5 m c t) C) := by
  have hT : t.val < 64 := t.isLt
  constructor
  · exact next_sums (inputs h t) hT (grid0.coords t) M L hs
  · exact next_cands (inputs h t) (places h t) hT (grid0.coords t) (coord t) C hc

/-- The running arrays after the first point. -/
theorem carried_zero (h : Holds m A c) (t : Fin cfg0.N) (hz : t.val = 0) :
    Sums A (t.val * 2 + 2) (carry m c t.val t.isLt).1 (carry m c t.val t.isLt).2.1 ∧ Cands A (t.val * 2 + 2) (carry m c t.val t.isLt).2.2 := by
  obtain ⟨e1, e2, e3⟩ := carry_zero (F := Ideal) m c t hz (none128 (F := Ideal)) (none128 (F := Ideal)) (none128 (F := Ideal))
  have hs : atStart (grid0.coords t) := (hcond0_0 t).mpr (by rw [hz])
  have e : t.val * 2 = 0 := by omega
  rw [e1, e2, e3]
  generalize none128 (F := Ideal) = Z at *
  have a : Sums A (t.val * 2) (fresh (F := Ideal) (grid0.coords t) 0xFF61B1E6#32 Z) (fresh (F := Ideal) (grid0.coords t) 0x00000000#32 Z) := by
    rw [e]
    exact start_sums (grid0.coords t) hs Z Z
  have b : Cands A (t.val * 2) (fresh (F := Ideal) (grid0.coords t) 0x00000000#32 Z) := by
    rw [e]
    exact start_cands _
  exact point h t Z Z Z a b

/-- And after a later one. -/
theorem carried_succ (h : Holds m A c) (n : ℕ) (hn : n + 1 < cfg0.N) (i1 : Sums A (n * 2 + 2) (carry m c n (Nat.lt_of_succ_lt hn)).1 (carry m c n (Nat.lt_of_succ_lt hn)).2.1)
    (i2 : Cands A (n * 2 + 2) (carry m c n (Nat.lt_of_succ_lt hn)).2.2) :
    Sums A ((n + 1) * 2 + 2) (carry m c (n + 1) hn).1 (carry m c (n + 1) hn).2.1 ∧ Cands A ((n + 1) * 2 + 2) (carry m c (n + 1) hn).2.2 := by
  obtain ⟨e1, e2, e3⟩ := carry_succ m c n hn
  rw [e1, e2, e3]
  generalize carry m c n (Nat.lt_of_succ_lt hn) = p at *
  have hlt : n + 1 < 64 := hn
  have hs : ¬ atStart (grid0.coords ⟨n + 1, hn⟩) := fun hs => by
    have := (hcond0_0 ⟨n + 1, hn⟩).mp hs
    simp only at this
    omega
  have e : ∀ w (X : S480x128.Idx → EReal), fresh (F := Ideal) (grid0.coords ⟨n + 1, hn⟩) w X = X := fun w X => by
    unfold fresh
    rw [if_neg hs]
  have e2 : n * 2 + 2 = (n + 1) * 2 := by ring
  rw [e2] at i1 i2
  refine point h ⟨n + 1, hn⟩ p.1 p.2.1 p.2.2 ?_ ?_
  · rw [e, e]
    exact i1
  · rw [e]
    exact i2

/-- The running arrays after point `n`. -/
theorem carried (h : Holds m A c) (n : ℕ) : (hn : n < cfg0.N) →
    Sums A (n * 2 + 2) (carry m c n hn).1 (carry m c n hn).2.1 ∧ Cands A (n * 2 + 2) (carry m c n hn).2.2 := by
  induction n with
  | zero => exact fun hn => carried_zero h ⟨0, hn⟩ rfl
  | succ n ih => exact fun hn => carried_succ h n hn (ih (Nat.lt_of_succ_lt hn)).1 (ih (Nat.lt_of_succ_lt hn)).2

/-- The rows of an array of 480 rows as a draft position and a sequence. -/
def seqOf (R : Fin 480) : Fin 160 := ⟨R.val % 160, Nat.mod_lt _ (by decide)⟩
def posOf (R : Fin 480) : Fin 3 := ⟨R.val / 160, by omega⟩
theorem row_of (R : Fin 480) : R.val = (posOf R).val * 160 + (seqOf R).val := by
  unfold posOf seqOf
  simp only
  omega

/-- The tiles of logits make the whole array. -/
theorem array6 (h : Holds m A c) : (dats m 0 c).arrAt 6 cfg0.N
    = ((fun y => Spec.z2 A (seqOf (y 0)) (posOf (y 0)) (y 1)) : S480x65536.Idx → EReal) := by
  refine Dat.arrAt_eq_of_covers (dats m 0 c) 6 _ (by decide +kernel) fun t _ y => ?_
  rw [after0_6]
  blk_simp [idx6]
  have hT : t.val < 64 := t.isLt
  have h0 : (y 0).val < 480 := (y 0).isLt
  have h1 : (y 1).val < 1024 := (y 1).isLt
  have e : (win0_6.blk t).view.emb y = ix2 (⟨(y 0).val, h0⟩ : Fin 480) (⟨t.val * 1024 + (y 1).val, by omega⟩ : Fin 65536) := by
    blk_ext [idx6]
  rw [e]
  refine Eq.trans (congrArg _ ?_) (tile_at (inputs h t) ⟨(y 0).val, h0⟩ ⟨(y 1).val, h1⟩ _ _ (row_of ⟨(y 0).val, h0⟩) ⟨t.val * 1024 + (y 1).val, by omega⟩ rfl)
  exact ValueIdx.eq_ix2 y

theorem last_lt : 63 < cfg0.N := by decide

/-- The closing results. -/
theorem closed7 (h : Holds m A c) (R : Fin 480) : (dats m 0 c).after 7 ⟨63, last_lt⟩ (ix2 R 0) = Spec.lse A (seqOf R) (posOf R) := by
  rw [after0_7]
  unfold closeA
  rw [if_pos ((hcond0_1 ⟨63, last_lt⟩).mpr rfl)]
  exact close_sums _ _ (carried h 63 last_lt).1 (seqOf R) (posOf R) R (row_of R)

theorem closed8 (h : Holds m A c) (R : Fin 480) (j : Fin 20) (l : Fin 128) (hl : l.val = j.val) :
    (dats m 0 c).after 8 ⟨63, last_lt⟩ (ix2 R l) = Spec.logp A (seqOf R) (posOf R) j := by
  rw [after0_8]
  unfold closeB
  rw [if_pos ((hcond0_1 ⟨63, last_lt⟩).mpr rfl)]
  exact close_cands _ _ _ (carried h 63 last_lt).1 (carried h 63 last_lt).2 (seqOf R) (posOf R) j R (row_of R) l hl

theorem array7 (h : Holds m A c) (R : Fin 480) : (dats m 0 c).arrAt 7 cfg0.N (ix2 R 0) = Spec.lse A (seqOf R) (posOf R) := by
  have e := Dat.arrAt_emb_eq_after_last (dats m 0 c) 7 ⟨63, last_lt⟩ (by decide +kernel) (ix2 R 0)
  refine Eq.trans e ((cast_eq _ _).trans ?_)
  exact closed7 h R

theorem array8 (h : Holds m A c) (R : Fin 480) (j : Fin 20) (l : Fin 128) (hl : l.val = j.val) :
    (dats m 0 c).arrAt 8 cfg0.N (ix2 R l) = Spec.logp A (seqOf R) (posOf R) j := by
  have e := Dat.arrAt_emb_eq_after_last (dats m 0 c) 8 ⟨63, last_lt⟩ (by decide +kernel) (ix2 R l)
  refine Eq.trans e ((cast_eq _ _).trans ?_)
  exact closed8 h R j l hl

/-- The device's buffers as the region leaves them. -/
abbrev left (m : (ℓ : Loc nD τ sig) → Buf (Elt Ideal) ℓ) (c : Dev nD) : Valuation τ sig (Elt Ideal) :=
  Pipeline.withArrays (cfgs 0).spec c (V0 m c) fun w => (dats m 0 c).arrAt w (cfgs 0).N

theorem left6 (c : Dev nD) : left m c (Proc.devRef .tc main_v28_0) = (dats m 0 c).arrAt 6 cfg0.N :=
  Pipeline.withArrays_arr (cfgs 0).spec winFacts0.arr_inj c (V0 m c) (fun w => (dats m 0 c).arrAt w (cfgs 0).N) 6

theorem left7 (c : Dev nD) : left m c (Proc.devRef .tc main_v28_1) = (dats m 0 c).arrAt 7 cfg0.N :=
  Pipeline.withArrays_arr (cfgs 0).spec winFacts0.arr_inj c (V0 m c) (fun w => (dats m 0 c).arrAt w (cfgs 0).N) 7

theorem left8 (c : Dev nD) : left m c (Proc.devRef .tc main_v28_2) = (dats m 0 c).arrAt 8 cfg0.N :=
  Pipeline.withArrays_arr (cfgs 0).spec winFacts0.arr_inj c (V0 m c) (fun w => (dats m 0 c).arrAt w (cfgs 0).N) 8

/-- The row of a sequence and a draft position. -/
def rowAt (b : Fin 160) (k : Fin 3) : Fin 480 := ⟨k.val * 160 + b.val, by omega⟩
theorem seqOf_rowAt (b : Fin 160) (k : Fin 3) : seqOf (rowAt b k) = b := Fin.ext (by simp only [seqOf, rowAt]; omega)
theorem posOf_rowAt (b : Fin 160) (k : Fin 3) : posOf (rowAt b k) = k := Fin.ext (by simp only [posOf, rowAt]; omega)

theorem late_lse (h : Holds m A c) (b : Fin 160) (k : Fin 3) : after hostOps1 (left m c) (Proc.devRef .tc main_v30) (ix2 b k) = Spec.lse A b k := by
  refine (v30_at (left m c) b k (rowAt b k) rfl).trans ?_
  rw [left7, array7 h, seqOf_rowAt, posOf_rowAt]

theorem late_logp (h : Holds m A c) (b : Fin 160) (k : Fin 3) (j : Fin 20) :
    after hostOps1 (left m c) (Proc.devRef .tc main_v33) (ix3 b k j) = Spec.logp A b k j := by
  refine (v33_at (left m c) b k j (rowAt b k) rfl ⟨j.val, by omega⟩ rfl).trans ?_
  rw [left8, array8 h (rowAt b k) j _ rfl, seqOf_rowAt, posOf_rowAt]

theorem late_z2 (h : Holds m A c) (b : Fin 160) (k : Fin 3) (v : Fin 65536) :
    after hostOps1 (left m c) (Proc.devRef .tc main_v35) (ix3 b k v) = Spec.z2 A b k v := by
  refine (v35_at (left m c) b k v (rowAt b k) rfl).trans ?_
  rw [left6, array6 h]
  show Spec.z2 A (seqOf (rowAt b k)) (posOf (rowAt b k)) v = _
  rw [seqOf_rowAt, posOf_rowAt]

theorem end_lse (h : Holds m A c) : after hostOps1 (left m c) (Proc.devRef .tc main_v30) = Spec.lseArr A := by
  funext y
  rw [ValueIdx.eq_ix2 y]
  exact late_lse h _ _

theorem end_logp (h : Holds m A c) : after hostOps1 (left m c) (Proc.devRef .tc main_v33) = Spec.logpArr A := by
  funext y
  rw [ValueIdx.eq_ix3 y]
  exact late_logp h _ _ _

theorem end_z2 (h : Holds m A c) : after hostOps1 (left m c) (Proc.devRef .tc main_v35) = Spec.z2Arr A := by
  funext y
  rw [ValueIdx.eq_ix3 y]
  exact late_z2 h _ _ _

/-- The contents after the last lines. -/
theorem tail_eq (c : Dev nD) (b : Ref sig .tc) :
    Pipeline.afterTail₀ cfgs (dats m) 0 (V0 m) [hostOps1] c b = after hostOps1 (left m c) (Proc.devRef .tc b) := by
  unfold Pipeline.afterTail₀
  simp only [List.flatten_cons, List.flatten_nil, List.append_nil]

/-- The kernel runs, ends with the specification's three results, and leaves its arguments as they were. -/
theorem run (A : Dev nD → Spec.Args) (h : ∀ c, Holds m (A c) c) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v30) = Spec.lseArr (A c)
        ∧ r.2.mem ((c.tc : Thread nD τ).loc main_v33) = Spec.logpArr (A c)
        ∧ r.2.mem ((c.tc : Thread nD τ).loc main_v35) = Spec.z2Arr (A c))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))) :=
  (θ_run defs _ _).mono (fun _ hr c => ⟨⟨
      ((hr.1 c).2 main_v30 (Pipeline.mem_restRefs_of main_v30 (by decide) (by decide))).trans ((tail_eq c main_v30).trans (end_lse (h c))),
      ((hr.1 c).2 main_v33 (Pipeline.mem_restRefs_of main_v33 (by decide) (by decide))).trans ((tail_eq c main_v33).trans (end_logp (h c))),
      ((hr.1 c).2 main_v35 (Pipeline.mem_restRefs_of main_v35 (by decide) (by decide))).trans ((tail_eq c main_v35).trans (end_z2 (h c)))⟩, hr.2 c⟩)
    (θ_run_and (run_main m ρ) (unchanged m ρ))

end Cert.KernelIdeal.Values
-- ==== Proof.Pre.lean ====
module

public import proofs.«01_k».proof.Pre_ordinary
public import proofs.«01_k».proof.Proof.Spec
public import Idealize.ShloMosaic.Lib.ValueIdx

/-! # What the precondition says

The presence penalties are finite and every candidate lies in the vocabulary: so the arguments are
those of the specification. -/

@[expose] public section

noncomputable section

namespace Cert.Pre_ordinary

open Idealize.ShloMosaic

theorem facts : Facts where
  bcast_S_S160 := by decide
  bcast_S_S160x3x20 := by decide

theorem inf_word : Ideal.ofBits .f32 0x7F800000#32 = ⊤ := by simp [Ideal.ofBits, Ideal.ieee]

/-- A comparison that comes out true. -/
theorem lt_of_cmp {x y : EReal} (h : Ideal.cmp .olt x y = 1#1) : x < y := by
  by_contra hn
  simp [Ideal.cmp, hn] at h

/-- An extended real of finite absolute value is a real number. -/
theorem real_of_abs {x : EReal} (h : max x (-x) < ⊤) : x = (x.toReal : EReal) := by
  refine (EReal.coe_toReal ?_ ?_).symm
  · rintro rfl
    simp at h
  · rintro rfl
    simp at h

/-- A word at least zero and below `65536`, as signed numbers, is below `65536`. -/
theorem word_of_range {u : BitVec 32} (h0 : IntOp.cmpi .sge u 0#32 = 1#1) (h1 : IntOp.cmpi .slt u 65536#32 = 1#1) : u.toNat < 65536 := by
  have of_bit : ∀ b : Bool, BitVec.ofBool b = 1#1 → b = true := by decide
  have e0 : (0#32).sle u = true := of_bit _ h0
  have e1 : u.slt 65536#32 = true := of_bit _ h1
  rw [BitVec.sle_eq_decide, decide_eq_true_eq, BitVec.toInt_eq_toNat_cond, BitVec.toInt_eq_toNat_cond] at e0
  rw [BitVec.slt_eq_decide, decide_eq_true_eq, BitVec.toInt_eq_toNat_cond, BitVec.toInt_eq_toNat_cond] at e1
  simp at e0 e1
  split at e1 <;> omega

variable [Facts] (X : S160x3x5120.Idx → EReal) (XS : S160x3.Idx → EReal) (W : S5120x65536.Idx → EReal) (WS : S65536.Idx → EReal)
  (CN : S80x65536.Idx → BitVec 32) (P G R : S160.Idx → EReal) (CA : S160x3x20.Idx → BitVec 32)

/-- The arguments of the specification, under the precondition. -/
theorem given
    (h0 : (fn (F := Ideal) X XS W WS CN P G R CA).1 = (fun _ => 1#1))
    (h1 : (fn (F := Ideal) X XS W WS CN P G R CA).2.1 = (fun _ => 1#1))
    (h2 : (fn (F := Ideal) X XS W WS CN P G R CA).2.2 = (fun _ => 1#1)) :
    ∃ A : Spec.Args, Spec.Given A X XS W WS CN P G R CA := by
  have r0 : ∀ y, P y = ((P y).toReal : EReal) := fun y => real_of_abs (inf_word ▸ lt_of_cmp (congrFun h0 y))
  have r1 : ∀ y, (CA y).toNat < 65536 := fun y => word_of_range (congrFun h1 y) (congrFun h2 y)
  refine ⟨⟨fun b k i => X (ix3 b k i), fun b k => XS (ix2 b k), fun i v => W (ix2 i v), fun v => WS (ix1 v),
    fun b v => CN (ix2 b v), fun b => (P (ix1 b)).toReal, fun b => G (ix1 b), fun b => R (ix1 b),
    fun b k j => ⟨(CA (ix3 b k j)).toNat, r1 _⟩⟩,
    fun b k i => rfl, fun b k => rfl, fun i v => rfl, fun v => rfl, fun b v => rfl, fun b => r0 _, fun b => rfl, fun b => rfl,
    fun b k j => by simp⟩

end Cert.Pre_ordinary
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Frame
public import proofs.«01_k».proof.Proof.RefValue
public import proofs.«01_k».proof.Proof.KerValue
public import proofs.«01_k».proof.Proof.Pre
public import Idealize.ShloMosaic.Adequacy
public import Idealize.ShloMosaic.Init

@[expose] public section

noncomputable section

namespace Cert.Proof

open Idealize.ShloMosaic Idealize.SL.Sem

/-- Under the precondition both programs, from memories that agree on the arguments, end with the three
    results of the specification and leave the arguments as they were. -/
theorem agree : algebraic_KernelIdeal_ReferenceIdeal_pre_ordinary (hKernelIdeal := Cert.KernelIdeal.Gen.facts)
    (hReferenceIdeal := Cert.ReferenceIdeal.Gen.facts) (hPre_ordinary := Cert.Pre_ordinary.facts) := by
  intro m g m' g' hp he
  have hA : ∀ c, ∃ A, Cert.KernelIdeal.Values.Holds m A c := fun c => by
    obtain ⟨h0, h1, h2⟩ := hp c
    letI := Cert.Pre_ordinary.facts
    exact Cert.Pre_ordinary.given _ _ _ _ _ _ _ _ _ h0 h1 h2
  choose A hk using hA
  have hr : ∀ c, Cert.ReferenceIdeal.Values.Holds m' (A c) c := fun c => by
    obtain ⟨e0, e1, e2, e3, e4, e5, e6, e7, e8⟩ := he c
    unfold Cert.ReferenceIdeal.Values.Holds
    rw [e0, e1, e2, e3, e4, e5, e6, e7, e8]
    exact hk c
  refine ⟨fun c => Spec.lseArr (A c), fun c => Spec.logpArr (A c), fun c => Spec.z2Arr (A c), ?_, ?_⟩
  · exact (θ_run _ _ _).mono (fun _ h c => ⟨(h c).1.1, (h c).1.2.1, (h c).1.2.2, (h c).2⟩) (Cert.KernelIdeal.Values.run A hk g)
  · exact (θ_run _ _ _).mono (fun _ h c => ⟨(h c).1.1, (h c).1.2.1, (h c).1.2.2, (h c).2⟩) (Cert.ReferenceIdeal.Values.run A hr g')

/-- Everything claimed. -/
theorem claim : Cert.Claim :=
  ⟨Cert.Kernel.Gen.facts, Cert.KernelIdeal.Gen.facts, Cert.ReferenceIdeal.Gen.facts, Cert.Pre_ordinary.facts,
    fun m g _ => Cert.Kernel.Gen.frame m g,
    fun m g _ => Cert.KernelIdeal.Shaped.frame m g,
    fun m g _ => Cert.KernelIdeal.Shaped.frame m g,
    fun m g _ => Cert.ReferenceIdeal.Gen.frame m g,
    fun m g _ => Cert.ReferenceIdeal.Gen.frame m g,
    trivial,
    agree⟩

end Cert.Proof

end
